-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v26) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x4096 : Shape := ⟨3, ![16, 1, 4096]⟩
abbrev S16x1x4x128 : Shape := ⟨4, ![16, 1, 4, 128]⟩
abbrev S16x8192x4x128 : Shape := ⟨4, ![16, 8192, 4, 128]⟩
abbrev S16x8192x4 : Shape := ⟨3, ![16, 8192, 4]⟩
abbrev S16x4x8x128 : Shape := ⟨4, ![16, 4, 8, 128]⟩
abbrev S16x4x8x128x1 : Shape := ⟨5, ![16, 4, 8, 128, 1]⟩
abbrev S4x4 : Shape := ⟨2, ![4, 4]⟩
abbrev S_ : Shape := ⟨0, ![]⟩
abbrev S1x4x1x1x4 : Shape := ⟨5, ![1, 4, 1, 1, 4]⟩
abbrev S16x4x8x128x4 : Shape := ⟨5, ![16, 4, 8, 128, 4]⟩
abbrev S16x32x512 : Shape := ⟨3, ![16, 32, 512]⟩
abbrev S16x32x128 : Shape := ⟨3, ![16, 32, 128]⟩
abbrev S16x32768x128 : Shape := ⟨3, ![16, 32768, 128]⟩
abbrev S16x4x8192 : Shape := ⟨3, ![16, 4, 8192]⟩
abbrev S16x4x128 : Shape := ⟨3, ![16, 4, 128]⟩
abbrev S16x4x1 : Shape := ⟨3, ![16, 4, 1]⟩
abbrev S1x32x512 : Shape := ⟨3, ![1, 32, 512]⟩
abbrev S1x32x128 : Shape := ⟨3, ![1, 32, 128]⟩
abbrev S1x4x128 : Shape := ⟨3, ![1, 4, 128]⟩
abbrev S1x32768x128 : Shape := ⟨3, ![1, 32768, 128]⟩
abbrev S1x4x8192 : Shape := ⟨3, ![1, 4, 8192]⟩
abbrev S1x4x1 : Shape := ⟨3, ![1, 4, 1]⟩
abbrev S32x8192 : Shape := ⟨2, ![32, 8192]⟩
abbrev S512x32 : Shape := ⟨2, ![512, 32]⟩
abbrev S4x128 : Shape := ⟨2, ![4, 128]⟩
abbrev S4 : Shape := ⟨1, ![4]⟩
abbrev S4x1 : Shape := ⟨2, ![4, 1]⟩
abbrev S32x128 : Shape := ⟨2, ![32, 128]⟩
abbrev S32x4 : Shape := ⟨2, ![32, 4]⟩
abbrev S32 : Shape := ⟨1, ![32]⟩
abbrev S32x1 : Shape := ⟨2, ![32, 1]⟩
abbrev S32x512 : Shape := ⟨2, ![32, 512]⟩
abbrev S1x2048x128 : Shape := ⟨3, ![1, 2048, 128]⟩
abbrev S2048x128 : Shape := ⟨2, ![2048, 128]⟩
abbrev S512x128 : Shape := ⟨2, ![512, 128]⟩
abbrev S128x512 : Shape := ⟨2, ![128, 512]⟩
abbrev S512x512 : Shape := ⟨2, ![512, 512]⟩
abbrev S1x4x512 : Shape := ⟨3, ![1, 4, 512]⟩
abbrev S4x512 : Shape := ⟨2, ![4, 512]⟩
abbrev S16x512 : Shape := ⟨2, ![16, 512]⟩
abbrev S32x16x512 : Shape := ⟨3, ![32, 16, 512]⟩
abbrev S1x16x512 : Shape := ⟨3, ![1, 16, 512]⟩
abbrev S128x32 : Shape := ⟨2, ![128, 32]⟩
abbrev S4x1x128 : Shape := ⟨3, ![4, 1, 128]⟩
abbrev S4x8x128 : Shape := ⟨3, ![4, 8, 128]⟩
abbrev S16x1x4 : Shape := ⟨3, ![16, 1, 4]⟩

abbrev nBuf : Space → Nat
  | .hbm => 39
  | .vmem => 28
  | .smem => 0
  | _ => 0

abbrev bufTy : (tb : Table) → Fin (tcTables nBuf tb) → BufTy
  | .hbm, ⟨0, _⟩ => ⟨S16x1x4096, .f32⟩
  | .hbm, ⟨1, _⟩ => ⟨S16x1x4x128, .f32⟩
  | .hbm, ⟨2, _⟩ => ⟨S16x1x4x128, .f32⟩
  | .hbm, ⟨3, _⟩ => ⟨S16x8192x4x128, .i8⟩
  | .hbm, ⟨4, _⟩ => ⟨S16x8192x4, .f32⟩
  | .hbm, ⟨5, _⟩ => ⟨S16x8192x4x128, .i8⟩
  | .hbm, ⟨6, _⟩ => ⟨S16x8192x4, .f32⟩
  | .hbm, ⟨7, _⟩ => ⟨S16x4x8x128, .f32⟩
  | .hbm, ⟨8, _⟩ => ⟨S16x4x8x128, .bf16⟩
  | .hbm, ⟨9, _⟩ => ⟨S16x4x8x128x1, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .bf16⟩
  | .hbm, ⟨17, _⟩ => ⟨S1x4x1x1x4, .bf16⟩
  | .hbm, ⟨18, _⟩ => ⟨S16x4x8x128x4, .bf16⟩
  | .hbm, ⟨19, _⟩ => ⟨S16x4x8x128x4, .bf16⟩
  | .hbm, ⟨20, _⟩ => ⟨S16x4x8x128x4, .bf16⟩
  | .hbm, ⟨21, _⟩ => ⟨S16x32x512, .bf16⟩
  | .hbm, ⟨22, _⟩ => ⟨S16x32x128, .bf16⟩
  | .hbm, ⟨23, _⟩ => ⟨S16x32768x128, .i8⟩
  | .hbm, ⟨24, _⟩ => ⟨S16x32768x128, .i8⟩
  | .hbm, ⟨25, _⟩ => ⟨S16x4x8192, .f32⟩
  | .hbm, ⟨26, _⟩ => ⟨S16x4x8192, .f32⟩
  | .hbm, ⟨27, _⟩ => ⟨S16x4x128, .f32⟩
  | .hbm, ⟨28, _⟩ => ⟨S16x4x128, .f32⟩
  | .hbm, ⟨29, _⟩ => ⟨S16x32x128, .f32⟩
  | .hbm, ⟨30, _⟩ => ⟨S16x4x128, .i8⟩
  | .hbm, ⟨31, _⟩ => ⟨S16x4x1, .f32⟩
  | .hbm, ⟨32, _⟩ => ⟨S16x4x128, .i8⟩
  | .hbm, ⟨33, _⟩ => ⟨S16x4x1, .f32⟩
  | .hbm, ⟨34, _⟩ => ⟨S16x1x4096, .f32⟩
  | .hbm, ⟨35, _⟩ => ⟨S16x1x4x128, .i8⟩
  | .hbm, ⟨36, _⟩ => ⟨S16x1x4, .f32⟩
  | .hbm, ⟨37, _⟩ => ⟨S16x1x4x128, .i8⟩
  | .hbm, ⟨38, _⟩ => ⟨S16x1x4, .f32⟩
  | .local _ .vmem, ⟨0, _⟩ => ⟨S1x32x512, .bf16⟩
  | .local _ .vmem, ⟨1, _⟩ => ⟨S1x32x512, .bf16⟩
  | .local _ .vmem, ⟨2, _⟩ => ⟨S1x32x128, .bf16⟩
  | .local _ .vmem, ⟨3, _⟩ => ⟨S1x32x128, .bf16⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | .local _ .vmem, ⟨8, _⟩ => ⟨S1x32768x128, .i8⟩
  | .local _ .vmem, ⟨9, _⟩ => ⟨S1x32768x128, .i8⟩
  | .local _ .vmem, ⟨10, _⟩ => ⟨S1x4x8192, .f32⟩
  | .local _ .vmem, ⟨11, _⟩ => ⟨S1x4x8192, .f32⟩
  | .local _ .vmem, ⟨12, _⟩ => ⟨S1x32768x128, .i8⟩
  | .local _ .vmem, ⟨13, _⟩ => ⟨S1x32768x128, .i8⟩
  | .local _ .vmem, ⟨14, _⟩ => ⟨S1x4x8192, .f32⟩
  | .local _ .vmem, ⟨15, _⟩ => ⟨S1x4x8192, .f32⟩
  | .local _ .vmem, ⟨16, _⟩ => ⟨S1x32x128, .f32⟩
  | .local _ .vmem, ⟨17, _⟩ => ⟨S1x32x128, .f32⟩
  | .local _ .vmem, ⟨18, _⟩ => ⟨S1x4x128, .i8⟩
  | .local _ .vmem, ⟨19, _⟩ => ⟨S1x4x128, .i8⟩
  | .local _ .vmem, ⟨20, _⟩ => ⟨S1x4x1, .f32⟩
  | .local _ .vmem, ⟨21, _⟩ => ⟨S1x4x1, .f32⟩
  | .local _ .vmem, ⟨22, _⟩ => ⟨S1x4x128, .i8⟩
  | .local _ .vmem, ⟨23, _⟩ => ⟨S1x4x128, .i8⟩
  | .local _ .vmem, ⟨24, _⟩ => ⟨S1x4x1, .f32⟩
  | .local _ .vmem, ⟨25, _⟩ => ⟨S1x4x1, .f32⟩
  | .local _ .vmem, ⟨26, _⟩ => ⟨S32x8192, .f32⟩
  | .local _ .vmem, ⟨27, _⟩ => ⟨S512x32, .f32⟩
  | _, _ => ⟨S16x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_43 : BitVec 32 := 0#32
  let c16_i32 : BitVec 32 := 16#32
  let v97 : BitVec 32 := Scalar.addi c0_i32_43 c16_i32
  let c1_i32_44 : BitVec 32 := 1#32
  ⟨c0_i32_43, v97, c1_i32_44⟩
def k0_off1 (k0_t1 : Fin k0_t1_loop.trips) : Fin 3 → Nat :=
  let c0_74 : Index := 0#32
  let c0_i32_43 : BitVec 32 := 0#32
  let c1_i32_44 : BitVec 32 := 1#32
  let arg16 : BitVec 32 := Scf.iv c0_i32_43 c1_i32_44 k0_t1
  let c4_i32 : BitVec 32 := 4#32
  let v172 : BitVec 32 := Scalar.muli arg16 c4_i32
  let c512_i32 : BitVec 32 := 512#32
  let v173 : BitVec 32 := Scalar.muli v172 c512_i32
  let v174 : Index := Scalar.indexCast v173
  let c0_75 : Index := 0#32
  ![0, v174.toNat, 0]
def k0_off2 (k0_t1 : Fin k0_t1_loop.trips) : Fin 3 → Nat :=
  let c0_77 : Index := 0#32
  let c0_78 : Index := 0#32
  let c0_i32_43 : BitVec 32 := 0#32
  let c1_i32_44 : BitVec 32 := 1#32
  let arg16 : BitVec 32 := Scf.iv c0_i32_43 c1_i32_44 k0_t1
  let c512_i32_76 : BitVec 32 := 512#32
  let v180 : BitVec 32 := Scalar.muli arg16 c512_i32_76
  let v181 : Index := Scalar.indexCast v180
  ![0, 0, v181.toNat]
def k0_off3 (k0_t1 : Fin k0_t1_loop.trips) : Fin 2 → Nat :=
  let c0_82 : Index := 0#32
  let c0_i32_43 : BitVec 32 := 0#32
  let c1_i32_44 : BitVec 32 := 1#32
  let arg16 : BitVec 32 := Scf.iv c0_i32_43 c1_i32_44 k0_t1
  let c512_i32_81 : BitVec 32 := 512#32
  let v195 : BitVec 32 := Scalar.muli arg16 c512_i32_81
  let v196 : Index := Scalar.indexCast v195
  ![0, v196.toNat]
@[reducible] def k0_t2_loop : Scf.Loop 32 :=
  let c0_i32_51 : BitVec 32 := 0#32
  let c16_i32_52 : BitVec 32 := 16#32
  let v107 : BitVec 32 := Scalar.addi c0_i32_51 c16_i32_52
  let c1_i32_53 : BitVec 32 := 1#32
  ⟨c0_i32_51, v107, c1_i32_53⟩
def k0_off4 (k0_t2 : Fin k0_t2_loop.trips) : Fin 2 → Nat :=
  let c0_74 : Index := 0#32
  let c0_i32_51 : BitVec 32 := 0#32
  let c1_i32_53 : BitVec 32 := 1#32
  let arg16 : BitVec 32 := Scf.iv c0_i32_51 c1_i32_53 k0_t2
  let c512_i32 : BitVec 32 := 512#32
  let v172 : BitVec 32 := Scalar.muli arg16 c512_i32
  let v173 : Index := Scalar.indexCast v172
  ![0, v173.toNat]
def k0_off5 (k0_t2 : Fin k0_t2_loop.trips) : Fin 3 → Nat :=
  let c0_76 : Index := 0#32
  let c0_i32_51 : BitVec 32 := 0#32
  let c1_i32_53 : BitVec 32 := 1#32
  let arg16 : BitVec 32 := Scf.iv c0_i32_51 c1_i32_53 k0_t2
  let c4_i32 : BitVec 32 := 4#32
  let v178 : BitVec 32 := Scalar.muli arg16 c4_i32
  let c512_i32_75 : BitVec 32 := 512#32
  let v179 : BitVec 32 := Scalar.muli v178 c512_i32_75
  let v180 : Index := Scalar.indexCast v179
  let c0_77 : Index := 0#32
  ![0, v180.toNat, 0]
def k0_off6 (k0_t2 : Fin k0_t2_loop.trips) : Fin 3 → Nat :=
  let c0_79 : Index := 0#32
  let c0_80 : Index := 0#32
  let c0_i32_51 : BitVec 32 := 0#32
  let c1_i32_53 : BitVec 32 := 1#32
  let arg16 : BitVec 32 := Scf.iv c0_i32_51 c1_i32_53 k0_t2
  let c512_i32_78 : BitVec 32 := 512#32
  let v186 : BitVec 32 := Scalar.muli arg16 c512_i32_78
  let v187 : Index := Scalar.indexCast v186
  ![0, 0, v187.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32768x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32768x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16x1x4096 : Shape := ⟨3, ![16, 1, 4096]⟩
abbrev S16x1x4x128 : Shape := ⟨4, ![16, 1, 4, 128]⟩
abbrev S16x8192x4x128 : Shape := ⟨4, ![16, 8192, 4, 128]⟩
abbrev S16x8192x4 : Shape := ⟨3, ![16, 8192, 4]⟩
abbrev S_ : Shape := ⟨0, ![]⟩
abbrev S16x1x4 : Shape := ⟨3, ![16, 1, 4]⟩
abbrev S16x1x4x1 : Shape := ⟨4, ![16, 1, 4, 1]⟩
abbrev S16x1x4x8x128 : Shape := ⟨5, ![16, 1, 4, 8, 128]⟩
abbrev S16x8192x4x1 : Shape := ⟨4, ![16, 8192, 4, 1]⟩
abbrev S16x8193x4x128 : Shape := ⟨4, ![16, 8193, 4, 128]⟩
abbrev S16x4x8193x1x8 : Shape := ⟨5, ![16, 4, 8193, 1, 8]⟩
abbrev S16x1x4x8x8193 : Shape := ⟨5, ![16, 1, 4, 8, 8193]⟩
abbrev S16x1x4x8 : Shape := ⟨4, ![16, 1, 4, 8]⟩
abbrev S16x1x4x8x1 : Shape := ⟨5, ![16, 1, 4, 8, 1]⟩
abbrev S16x4x128x1x8 : Shape := ⟨5, ![16, 4, 128, 1, 8]⟩

abbrev nBuf : Space → Nat
  | .hbm => 113
  | .vmem => 0
  | .smem => 0
  | _ => 0

abbrev bufTy : (tb : Table) → Fin (tcTables nBuf tb) → BufTy
  | .hbm, ⟨0, _⟩ => ⟨S16x1x4096, .f32⟩
  | .hbm, ⟨1, _⟩ => ⟨S16x1x4x128, .f32⟩
  | .hbm, ⟨2, _⟩ => ⟨S16x1x4x128, .f32⟩
  | .hbm, ⟨3, _⟩ => ⟨S16x8192x4x128, .i8⟩
  | .hbm, ⟨4, _⟩ => ⟨S16x8192x4, .f32⟩
  | .hbm, ⟨5, _⟩ => ⟨S16x8192x4x128, .i8⟩
  | .hbm, ⟨6, _⟩ => ⟨S16x8192x4, .f32⟩
  | .hbm, ⟨7, _⟩ => ⟨S16x1x4x128, .f32⟩
  | .hbm, ⟨8, _⟩ => ⟨S_, .f32⟩
  | .hbm, ⟨9, _⟩ => ⟨S16x1x4, .f32⟩
  | .hbm, ⟨10, _⟩ => ⟨S_, .f32⟩
  | .hbm, ⟨11, _⟩ => ⟨S16x1x4, .f32⟩
  | .hbm, ⟨12, _⟩ => ⟨S16x1x4, .i1⟩
  | .hbm, ⟨13, _⟩ => ⟨S_, .f32⟩
  | .hbm, ⟨14, _⟩ => ⟨S16x1x4, .f32⟩
  | .hbm, ⟨15, _⟩ => ⟨S16x1x4, .f32⟩
  | .hbm, ⟨16, _⟩ => ⟨S_, .f32⟩
  | .hbm, ⟨17, _⟩ => ⟨S_, .f32⟩
  | .hbm, ⟨18, _⟩ => ⟨S16x1x4, .f32⟩
  | .hbm, ⟨19, _⟩ => ⟨S16x1x4, .f32⟩
  | .hbm, ⟨20, _⟩ => ⟨S16x1x4x1, .f32⟩
  | .hbm, ⟨21, _⟩ => ⟨S16x1x4x128, .f32⟩
  | .hbm, ⟨22, _⟩ => ⟨S16x1x4x128, .f32⟩
  | .hbm, ⟨23, _⟩ => ⟨S16x1x4x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16x1x4x128, .f32⟩
  | .hbm, ⟨28, _⟩ => ⟨S16x1x4x128, .f32⟩
  | .hbm, ⟨29, _⟩ => ⟨S_, .f32⟩
  | .hbm, ⟨30, _⟩ => ⟨S16x1x4x128, .f32⟩
  | .hbm, ⟨31, _⟩ => ⟨S16x1x4x128, .f32⟩
  | .hbm, ⟨32, _⟩ => ⟨S16x1x4x128, .i32⟩
  | .hbm, ⟨33, _⟩ => ⟨S16x1x4x128, .i8⟩
  | .hbm, ⟨34, _⟩ => ⟨S16x1x4x128, .f32⟩
  | .hbm, ⟨35, _⟩ => ⟨S_, .f32⟩
  | .hbm, ⟨36, _⟩ => ⟨S16x1x4, .f32⟩
  | .hbm, ⟨37, _⟩ => ⟨S_, .f32⟩
  | .hbm, ⟨38, _⟩ => ⟨S16x1x4, .f32⟩
  | .hbm, ⟨39, _⟩ => ⟨S16x1x4, .i1⟩
  | .hbm, ⟨40, _⟩ => ⟨S_, .f32⟩
  | .hbm, ⟨41, _⟩ => ⟨S16x1x4, .f32⟩
  | .hbm, ⟨42, _⟩ => ⟨S16x1x4, .f32⟩
  | .hbm, ⟨43, _⟩ => ⟨S_, .f32⟩
  | .hbm, ⟨44, _⟩ => ⟨S_, .f32⟩
  | .hbm, ⟨45, _⟩ => ⟨S16x1x4, .f32⟩
  | .hbm, ⟨46, _⟩ => ⟨S16x1x4, .f32⟩
  | .hbm, ⟨47, _⟩ => ⟨S16x1x4x1, .f32⟩
  | .hbm, ⟨48, _⟩ => ⟨S16x1x4x128, .f32⟩
  | .hbm, ⟨49, _⟩ => ⟨S16x1x4x128, .f32⟩
  | .hbm, ⟨50, _⟩ => ⟨S16x1x4x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16x1x4x128, .f32⟩
  | .hbm, ⟨55, _⟩ => ⟨S16x1x4x128, .f32⟩
  | .hbm, ⟨56, _⟩ => ⟨S_, .f32⟩
  | .hbm, ⟨57, _⟩ => ⟨S16x1x4x128, .f32⟩
  | .hbm, ⟨58, _⟩ => ⟨S16x1x4x128, .f32⟩
  | .hbm, ⟨59, _⟩ => ⟨S16x1x4x128, .i32⟩
  | .hbm, ⟨60, _⟩ => ⟨S16x1x4x128, .i8⟩
  | .hbm, ⟨61, _⟩ => ⟨S16x1x4x8x128, .f32⟩
  | .hbm, ⟨62, _⟩ => ⟨S16x8192x4x128, .i32⟩
  | .hbm, ⟨63, _⟩ => ⟨S16x8192x4x128, .f32⟩
  | .hbm, ⟨64, _⟩ => ⟨S16x8192x4x128, .bf16⟩
  | .hbm, ⟨65, _⟩ => ⟨S16x8192x4, .bf16⟩
  | .hbm, ⟨66, _⟩ => ⟨S16x8192x4x1, .bf16⟩
  | .hbm, ⟨67, _⟩ => ⟨S16x8192x4x128, .bf16⟩
  | .hbm, ⟨68, _⟩ => ⟨S16x8192x4x128, .bf16⟩
  | .hbm, ⟨69, _⟩ => ⟨S16x1x4x128, .i32⟩
  | .hbm, ⟨70, _⟩ => ⟨S16x1x4x128, .f32⟩
  | .hbm, ⟨71, _⟩ => ⟨S16x1x4x128, .bf16⟩
  | .hbm, ⟨72, _⟩ => ⟨S16x1x4, .bf16⟩
  | .hbm, ⟨73, _⟩ => ⟨S16x1x4x1, .bf16⟩
  | .hbm, ⟨74, _⟩ => ⟨S16x1x4x128, .bf16⟩
  | .hbm, ⟨75, _⟩ => ⟨S16x1x4x128, .bf16⟩
  | .hbm, ⟨76, _⟩ => ⟨S16x8193x4x128, .bf16⟩
  | .hbm, ⟨77, _⟩ => ⟨S16x8193x4x128, .f32⟩
  | .hbm, ⟨78, _⟩ => ⟨S16x8192x4x128, .i32⟩
  | .hbm, ⟨79, _⟩ => ⟨S16x8192x4x128, .f32⟩
  | .hbm, ⟨80, _⟩ => ⟨S16x8192x4x128, .bf16⟩
  | .hbm, ⟨81, _⟩ => ⟨S16x8192x4, .bf16⟩
  | .hbm, ⟨82, _⟩ => ⟨S16x8192x4x1, .bf16⟩
  | .hbm, ⟨83, _⟩ => ⟨S16x8192x4x128, .bf16⟩
  | .hbm, ⟨84, _⟩ => ⟨S16x8192x4x128, .bf16⟩
  | .hbm, ⟨85, _⟩ => ⟨S16x1x4x128, .i32⟩
  | .hbm, ⟨86, _⟩ => ⟨S16x1x4x128, .f32⟩
  | .hbm, ⟨87, _⟩ => ⟨S16x1x4x128, .bf16⟩
  | .hbm, ⟨88, _⟩ => ⟨S16x1x4, .bf16⟩
  | .hbm, ⟨89, _⟩ => ⟨S16x1x4x1, .bf16⟩
  | .hbm, ⟨90, _⟩ => ⟨S16x1x4x128, .bf16⟩
  | .hbm, ⟨91, _⟩ => ⟨S16x1x4x128, .bf16⟩
  | .hbm, ⟨92, _⟩ => ⟨S16x8193x4x128, .bf16⟩
  | .hbm, ⟨93, _⟩ => ⟨S16x8193x4x128, .f32⟩
  | .hbm, ⟨94, _⟩ => ⟨S16x4x8193x1x8, .f32⟩
  | .hbm, ⟨95, _⟩ => ⟨S16x1x4x8x8193, .f32⟩
  | .hbm, ⟨96, _⟩ => ⟨S_, .f32⟩
  | .hbm, ⟨97, _⟩ => ⟨S16x1x4x8x8193, .f32⟩
  | .hbm, ⟨98, _⟩ => ⟨S16x1x4x8x8193, .f32⟩
  | .hbm, ⟨99, _⟩ => ⟨S_, .f32⟩
  | .hbm, ⟨100, _⟩ => ⟨S16x1x4x8, .f32⟩
  | .hbm, ⟨101, _⟩ => ⟨S16x1x4x8x1, .f32⟩
  | .hbm, ⟨102, _⟩ => ⟨S16x1x4x8x8193, .f32⟩
  | .hbm, ⟨103, _⟩ => ⟨S16x1x4x8x8193, .f32⟩
  | .hbm, ⟨104, _⟩ => ⟨S16x1x4x8x8193, .f32⟩
  | .hbm, ⟨105, _⟩ => ⟨S_, .f32⟩
  | .hbm, ⟨106, _⟩ => ⟨S16x1x4x8, .f32⟩
  | .hbm, ⟨107, _⟩ => ⟨S16x4x128x1x8, .f32⟩
  | .hbm, ⟨108, _⟩ => ⟨S16x1x4x8x128, .f32⟩
  | .hbm, ⟨109, _⟩ => ⟨S16x1x4x8x1, .f32⟩
  | .hbm, ⟨110, _⟩ => ⟨S16x1x4x8x128, .f32⟩
  | .hbm, ⟨111, _⟩ => ⟨S16x1x4x8x128, .f32⟩
  | .hbm, ⟨112, _⟩ => ⟨S16x1x4096, .f32⟩
  | _, _ => ⟨S16x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_5 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_cst_7 : Ref sig .tc := ⟨.hbm, 40, rfl⟩
abbrev main_v18 : Ref sig .tc := ⟨.hbm, 41, rfl⟩
abbrev main_v19 : Ref sig .tc := ⟨.hbm, 42, rfl⟩
abbrev main_cst_8 : Ref sig .tc := ⟨.hbm, 43, rfl⟩
abbrev main_call3_v0 : Ref sig .tc := ⟨.hbm, 44, rfl⟩
abbrev main_call3_v1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_cst_10 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Proof.BodyLoops.lean ====
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import Idealize.ShloMosaic.Lib.WholeRead
public import Idealize.ShloMosaic.Lib.Pipeline.ValueKit

/-! The two loops of the kernel over the sixteen chunks of the cache, each by an invariant that says what the
    buffers hold: after `k` trips of the first loop the scratch of scores holds the first `k` chunks of scores and the
    carried value is their running maximum; after `k` trips of the second loop the scratch of weighted values and the
    carried value are the two running sums. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The chunks -/

/-- Chunk `k` of the codes of one batch point: 2048 rows of the 32768. -/
def chunkRows (x : Vec F S1x32768x128 .i8) (k : ℕ) : Vec F S1x2048x128 .i8 := fun y =>
  x (ix3 0 ⟨(2048 * k + (y 1).val) % 32768, Nat.mod_lt _ (by decide)⟩ ⟨(y 2).val, (y 2).isLt⟩)

/-- Chunk `k` of the scales of one batch point: 512 columns of the 8192. -/
def chunkCols (x : Vec F S1x4x8192 .f32) (k : ℕ) : Vec F S1x4x512 .f32 := fun y =>
  x (ix3 0 ⟨(y 1).val, (y 1).isLt⟩ ⟨(512 * k + (y 2).val) % 8192, Nat.mod_lt _ (by decide)⟩)

/-- Chunk `k` of the scores: 512 columns of the 8192. -/
def chunkSc (x : Vec F S32x8192 .f32) (k : ℕ) : Vec F S32x512 .f32 := fun y =>
  x (ix2 ⟨(y 0).val, (y 0).isLt⟩ ⟨(512 * k + (y 1).val) % 8192, Nat.mod_lt _ (by decide)⟩)

/-- All scores: column `t` is column `t % 512` of the scores of chunk `t / 512`. -/
def scAll (v94 : Vec F S1x32x512 .bf16) (x4 : Vec F S1x32768x128 .i8) (x5 : Vec F S1x4x8192 .f32) : Vec F S32x8192 .f32 := fun y =>
  k0_pay19 v94 (chunkRows x4 ((y 1).val / 512)) (chunkCols x5 ((y 1).val / 512))
    (ix2 ⟨(y 0).val, (y 0).isLt⟩ ⟨(y 1).val % 512, Nat.mod_lt _ (by decide)⟩)

/-- The running maximum of the first loop after `k` chunks. -/
def accM (v94 : Vec F S1x32x512 .bf16) (x4 : Vec F S1x32768x128 .i8) (x5 : Vec F S1x4x8192 .f32) : ℕ → FVec F S32x512 .f32
  | 0 => k0_pay17
  | k + 1 => k0_pay20 v94 (accM v94 x4 x5 k) (chunkRows x4 k) (chunkCols x5 k)

variable (v62 : FVec F S32x4 .f32) (v63 : IVec S32x4 32) (c8_i32 : BitVec 32) (v65 : IVec S32x4 32) (v72 : IVec S32x4 32) (v74 : BitVec 32) (c0_i32_35 : BitVec 32) (v98 : FVec F S32x512 .f32)

/-- The running sum of the exponentials in the second loop after `k` chunks. -/
def accL (sc : Vec F S32x8192 .f32) : ℕ → FVec F S32x512 .f32
  | 0 => k0_pay23
  | k + 1 => k0_pay26 v62 v63 c8_i32 v65 v72 v74 c0_i32_35 v98 (accL sc k) (chunkSc sc k)

/-- The running sum of the weighted values in the second loop after `k` chunks. -/
def accA (sc : Vec F S32x8192 .f32) (x6 : Vec F S1x32768x128 .i8) (x7 : Vec F S1x4x8192 .f32) (z : Vec F S512x32 .f32) :
    ℕ → FVec F S512x32 .f32
  | 0 => z
  | k + 1 => k0_pay25 v62 v63 c8_i32 v65 v72 v74 c0_i32_35 v98 (chunkSc sc k) (chunkRows x6 k) (chunkCols x7 k) (accA sc x6 x7 z k)

/-- The loop over the keys has sixteen chunks. -/
theorem trips1 : k0_t1_loop.trips = 16 := by decide +kernel
/-- The loop over the values has sixteen chunks. -/
theorem trips2 : k0_t2_loop.trips = 16 := by decide +kernel

/-! ## The loads of a chunk -/

/-- What the loop over the keys loads of the codes is their chunk. -/
theorem readAt_off1 (arg : Memref sig .tc .vmem S1x32768x128 .i8) (f : BufTy.Contents (Elt F) arg.view.ty) (k : Fin k0_t1_loop.trips) :
    arg.view.readAt (Elt F) (Rect.unit (s := S1x32768x128) (k0_off1 k) S1x2048x128.size (Gen.k0_off1_inb k)).toLoadRect f
      = chunkRows (arg.view.read (Elt F) f) k := by
  have hk : k.val < 16 := Nat.lt_of_lt_of_le k.isLt k0_t1_abs.2.1
  rw [View.readAt_eq_ld]
  funext y
  refine View.ld_unit_apply_of _ _ _ _ _ _ fun a => ?_
  refine Eq.trans ?_ (congrArg (· + (y a).val) (congrFun (k0_off1_eq k) a).symm)
  have h1 : (y 1).val < 2048 := (y 1).isLt
  match a with
  | ⟨0, _⟩ => have h0 : (y 0).val < 1 := (y 0).isLt
              show 0 = 0 + (y 0).val; omega
  | ⟨1, _⟩ => show (2048 * k.val + (y 1).val) % 32768 = 2048 * k.val + (y 1).val; omega
  | ⟨2, _⟩ => show (y 2).val = 0 + (y 2).val; omega

/-- What the loop over the values loads of the codes is their chunk. -/
theorem readAt_off5 (arg : Memref sig .tc .vmem S1x32768x128 .i8) (f : BufTy.Contents (Elt F) arg.view.ty) (k : Fin k0_t2_loop.trips) :
    arg.view.readAt (Elt F) (Rect.unit (s := S1x32768x128) (k0_off5 k) S1x2048x128.size (Gen.k0_off5_inb k)).toLoadRect f
      = chunkRows (arg.view.read (Elt F) f) k := by
  have hk : k.val < 16 := Nat.lt_of_lt_of_le k.isLt k0_t2_abs.2.1
  rw [View.readAt_eq_ld]
  funext y
  refine View.ld_unit_apply_of _ _ _ _ _ _ fun a => ?_
  refine Eq.trans ?_ (congrArg (· + (y a).val) (congrFun (k0_off5_eq k) a).symm)
  have h1 : (y 1).val < 2048 := (y 1).isLt
  match a with
  | ⟨0, _⟩ => have h0 : (y 0).val < 1 := (y 0).isLt
              show 0 = 0 + (y 0).val; omega
  | ⟨1, _⟩ => show (2048 * k.val + (y 1).val) % 32768 = 2048 * k.val + (y 1).val; omega
  | ⟨2, _⟩ => show (y 2).val = 0 + (y 2).val; omega

/-- What the loop over the keys loads of the scales is their chunk. -/
theorem readAt_off2 (arg : Memref sig .tc .vmem S1x4x8192 .f32) (f : BufTy.Contents (Elt F) arg.view.ty) (k : Fin k0_t1_loop.trips) :
    arg.view.readAt (Elt F) (Rect.unit (s := S1x4x8192) (k0_off2 k) S1x4x512.size (Gen.k0_off2_inb k)).toLoadRect f
      = chunkCols (arg.view.read (Elt F) f) k := by
  have hk : k.val < 16 := Nat.lt_of_lt_of_le k.isLt k0_t1_abs.2.1
  rw [View.readAt_eq_ld]
  funext y
  refine View.ld_unit_apply_of _ _ _ _ _ _ fun a => ?_
  refine Eq.trans ?_ (congrArg (· + (y a).val) (congrFun (k0_off2_eq k) a).symm)
  have h2 : (y 2).val < 512 := (y 2).isLt
  match a with
  | ⟨0, _⟩ => have h0 : (y 0).val < 1 := (y 0).isLt
              show 0 = 0 + (y 0).val; omega
  | ⟨1, _⟩ => show (y 1).val = 0 + (y 1).val; omega
  | ⟨2, _⟩ => show (512 * k.val + (y 2).val) % 8192 = 512 * k.val + (y 2).val; omega

/-- What the loop over the values loads of the scales is their chunk. -/
theorem readAt_off6 (arg : Memref sig .tc .vmem S1x4x8192 .f32) (f : BufTy.Contents (Elt F) arg.view.ty) (k : Fin k0_t2_loop.trips) :
    arg.view.readAt (Elt F) (Rect.unit (s := S1x4x8192) (k0_off6 k) S1x4x512.size (Gen.k0_off6_inb k)).toLoadRect f
      = chunkCols (arg.view.read (Elt F) f) k := by
  have hk : k.val < 16 := Nat.lt_of_lt_of_le k.isLt k0_t2_abs.2.1
  rw [View.readAt_eq_ld]
  funext y
  refine View.ld_unit_apply_of _ _ _ _ _ _ fun a => ?_
  refine Eq.trans ?_ (congrArg (· + (y a).val) (congrFun (k0_off6_eq k) a).symm)
  have h2 : (y 2).val < 512 := (y 2).isLt
  match a with
  | ⟨0, _⟩ => have h0 : (y 0).val < 1 := (y 0).isLt
              show 0 = 0 + (y 0).val; omega
  | ⟨1, _⟩ => show (y 1).val = 0 + (y 1).val; omega
  | ⟨2, _⟩ => show (512 * k.val + (y 2).val) % 8192 = 512 * k.val + (y 2).val; omega

/-- What the loop over the values loads of the scores is their chunk. -/
theorem readAt_off4 (arg : Memref sig .tc .vmem S32x8192 .f32) (f : BufTy.Contents (Elt F) arg.view.ty) (k : Fin k0_t2_loop.trips) :
    arg.view.readAt (Elt F) (Rect.unit (s := S32x8192) (k0_off4 k) S32x512.size (Gen.k0_off4_inb k)).toLoadRect f
      = chunkSc (arg.view.read (Elt F) f) k := by
  have hk : k.val < 16 := Nat.lt_of_lt_of_le k.isLt k0_t2_abs.2.1
  rw [View.readAt_eq_ld]
  funext y
  refine View.ld_unit_apply_of _ _ _ _ _ _ fun a => ?_
  refine Eq.trans ?_ (congrArg (· + (y a).val) (congrFun (k0_off4_eq k) a).symm)
  have h1 : (y 1).val < 512 := (y 1).isLt
  match a with
  | ⟨0, _⟩ => show (y 0).val = 0 + (y 0).val; omega
  | ⟨1, _⟩ => show (512 * k.val + (y 1).val) % 8192 = 512 * k.val + (y 1).val; omega

/-! ## The store of a chunk of scores -/

/-- Storing chunk `k` of the scores over a scratch that holds the first `k` chunks leaves the first `k + 1`. -/
theorem scores_step (arg14 : Memref sig .tc .vmem S32x8192 .f32) (v94 : Vec F S1x32x512 .bf16) (x4 : Vec F S1x32768x128 .i8)
    (x5 : Vec F S1x4x8192 .f32) (k : Fin k0_t1_loop.trips) (f : BufTy.Contents (Elt F) arg14.view.ty)
    (hf : ∀ y : S32x8192.Idx, (y 1).val < 512 * k.val → arg14.view.read (Elt F) f y = scAll v94 x4 x5 y) :
    ∀ y : S32x8192.Idx, (y 1).val < 512 * (k.val + 1) →
      arg14.view.read (Elt F) (arg14.view.writes (Elt F) f
        [⟨Rect.unit (s := S32x8192) (k0_off3 k) S32x512.size (Gen.k0_off3_inb k), k0_pay19 v94 (chunkRows x4 k) (chunkCols x5 k)⟩]) y
        = scAll v94 x4 x5 y := by
  intro y hy
  by_cases h : (y 1).val < 512 * k.val
  · refine (View.read_writes_cons_unit_of_not_mem _ f _ _ [] y (k0_off3_eq k) 1 (Or.inl h)).trans ?_
    exact hf y h
  · have h0 : (y 0).val < 32 := (y 0).isLt
    refine (View.read_writes_cons_unit_of_mem _ f _ _ [] y
      (ix2 ⟨(y 0).val, h0⟩ ⟨(y 1).val - 512 * k.val, by show _ < 512; omega⟩) (k0_off3_eq k) fun a => ?_).trans ?_
    · match a with
      | ⟨0, _⟩ => show (y 0).val = 0 + (y 0).val; omega
      | ⟨1, _⟩ => show (y 1).val = 512 * k.val + ((y 1).val - 512 * k.val); omega
    · have e1 : (y 1).val / 512 = k.val := by omega
      have e2 : (y 1).val % 512 = (y 1).val - 512 * k.val := by omega
      unfold scAll
      simp only [e1, e2]

/-- A load of the whole second scratch reads its contents. -/
theorem readAt_full15 (arg15 : Memref sig .tc .vmem S512x32 .f32) (f : BufTy.Contents (Elt F) arg15.view.ty) :
    arg15.view.readAt (Elt F) (Rect.unit (s := S512x32) ![0, 0] S512x32.size inb_S512x32_S512x32_0_0).toLoadRect f
      = arg15.view.read (Elt F) f := by
  rw [View.readAt_eq_ld]
  exact View.ld_unit_zero (by funext a; fin_cases a <;> rfl) _ _

/-- A store over the whole second scratch leaves what was stored. -/
theorem read_store_full (arg15 : Memref sig .tc .vmem S512x32 .f32) (f : BufTy.Contents (Elt F) arg15.view.ty) (w : Vec F S512x32 .f32) :
    arg15.view.read (Elt F) (arg15.view.writes (Elt F) f
      [⟨Rect.unit (s := S512x32) ![0, 0] S512x32.size inb_S512x32_S512x32_0_0, w⟩]) = w := by
  funext y
  refine View.read_writes_cons_unit_of_mem _ f _ _ [] y y rfl fun a => ?_
  match a with
  | ⟨0, _⟩ => show (y 0).val = 0 + (y 0).val; omega
  | ⟨1, _⟩ => show (y 1).val = 0 + (y 1).val; omega

/-! ## The loops -/

variable (i : grid0.Coords)
  (arg1 : Memref sig .tc .vmem S1x32x512 .bf16) (harg1 : arg1.IsWhole)
  (arg2 : Memref sig .tc .vmem S1x32x128 .bf16) (harg2 : arg2.IsWhole)
  (arg3 : Memref sig .tc .vmem S1x4x128 .f32) (harg3 : arg3.IsWhole)
  (arg4 : Memref sig .tc .vmem S1x4x128 .f32) (harg4 : arg4.IsWhole)
  (arg5 : Memref sig .tc .vmem S1x32768x128 .i8) (harg5 : arg5.IsWhole)
  (arg6 : Memref sig .tc .vmem S1x4x8192 .f32) (harg6 : arg6.IsWhole)
  (arg7 : Memref sig .tc .vmem S1x32768x128 .i8) (harg7 : arg7.IsWhole)
  (arg8 : Memref sig .tc .vmem S1x4x8192 .f32) (harg8 : arg8.IsWhole)
  (arg9 : Memref sig .tc .vmem S1x32x128 .f32) (harg9 : arg9.IsWhole)
  (arg10 : Memref sig .tc .vmem S1x4x128 .i8) (harg10 : arg10.IsWhole)
  (arg11 : Memref sig .tc .vmem S1x4x1 .f32) (harg11 : arg11.IsWhole)
  (arg12 : Memref sig .tc .vmem S1x4x128 .i8) (harg12 : arg12.IsWhole)
  (arg13 : Memref sig .tc .vmem S1x4x1 .f32) (harg13 : arg13.IsWhole)
  (arg14 : Memref sig .tc .vmem S32x8192 .f32) (harg14 : arg14.IsWhole)
  (arg15 : Memref sig .tc .vmem S512x32 .f32) (harg15 : arg15.IsWhole)

/-- What holds before trip `k` of the first loop. -/
def inv1 (c : Dev nD) (v94 : Vec F S1x32x512 .bf16) (X5 : BufTy.Contents (Elt F) arg5.view.ty) (X6 : BufTy.Contents (Elt F) arg6.view.ty)
    (k : ℕ) (acc : FVec F S32x512 .f32) : sProp 𝕄 :=
  iprop((arg5.view.loc (c : Thread nD τ) ↦[arg5.view.set]{fullShare} X5) ∗ (arg6.view.loc (c : Thread nD τ) ↦[arg6.view.set]{fullShare} X6)
    ∗ (∃ f, (arg14.view.loc (c : Thread nD τ) ↦[arg14.view.set]{fullShare} f)
        ∗ ⌜∀ y : S32x8192.Idx, (y 1).val < 512 * k → arg14.view.read (Elt F) f y
            = scAll v94 (arg5.view.read (Elt F) X5) (arg6.view.read (Elt F) X6) y⌝)
    ∗ ⌜acc = accM v94 (arg5.view.read (Elt F) X5) (arg6.view.read (Elt F) X6) k⌝)

/-- One trip of the first loop. -/
theorem step1 (𝒱 : Variants) (c : Dev nD) (bd : Option 𝒱.V) (E : Set ℕ) (v94 : Vec F S1x32x512 .bf16)
    (X5 : BufTy.Contents (Elt F) arg5.view.ty) (X6 : BufTy.Contents (Elt F) arg6.view.ty) (k : Fin k0_t1_loop.trips) (acc : FVec F S32x512 .f32) :
    inv1 (F := F) arg5 arg6 arg14 c v94 X5 X6 k acc
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v62 v63 c8_i32 v65 v72 v74 c0_i32_35 v94 k acc)
          (inv1 (F := F) arg5 arg6 arg14 c v94 X5 X6 (k.val + 1)) := by
  have hk : k.val < 16 := Nat.lt_of_lt_of_le k.isLt k0_t1_abs.2.1
  unfold k0_t1_body inv1
  iintro ⟨H5, H6, ⟨%f, H14, %hf⟩, %hacc⟩
  subst hacc
  sl_exec
  sl_step
  isplitl [H5]; · iexact H5
  isplitl [H6]; · iexact H6
  isplitl [H14]
  · iexists _; isplitl [H14]; · iexact H14
    ipureintro
    have key := scores_step arg14 v94 _ _ k f hf
    rw [← readAt_off1 arg5 X5 k, ← readAt_off2 arg6 X6 k] at key
    exact key
  · ipureintro
    have key : accM v94 (arg5.view.read (Elt F) X5) (arg6.view.read (Elt F) X6) (k.val + 1)
      = k0_pay20 v94 (accM v94 (arg5.view.read (Elt F) X5) (arg6.view.read (Elt F) X6) k)
        (chunkRows (arg5.view.read (Elt F) X5) k) (chunkCols (arg6.view.read (Elt F) X6) k) := rfl
    rw [key, ← readAt_off1 arg5 X5 k, ← readAt_off2 arg6 X6 k]

/-- The contents of the second scratch before trip `k`: as at loop entry, then the running sum. -/
def cont15 (G : BufTy.Contents (Elt F) arg15.view.ty) (a : ℕ → Vec F S512x32 .f32) : ℕ → BufTy.Contents (Elt F) arg15.view.ty
  | 0 => G
  | k + 1 => harg15.unread (a (k + 1))

/-- The accumulator read back after `k` chunks is the accumulated value. -/
theorem read_cont15 (G : BufTy.Contents (Elt F) arg15.view.ty) (a : ℕ → Vec F S512x32 .f32) (h : a 0 = arg15.view.read (Elt F) G) (k : ℕ) :
    arg15.view.read (Elt F) (cont15 arg15 harg15 G a k) = a k := by
  match k with
  | 0 => exact h.symm
  | k + 1 => exact harg15.read_unread _

/-- What holds before trip `k` of the second loop. -/
def inv2 (c : Dev nD) (X7 : BufTy.Contents (Elt F) arg7.view.ty) (X8 : BufTy.Contents (Elt F) arg8.view.ty)
    (X14 : BufTy.Contents (Elt F) arg14.view.ty) (G : BufTy.Contents (Elt F) arg15.view.ty) (k : ℕ) (acc : FVec F S32x512 .f32) : sProp 𝕄 :=
  iprop((arg7.view.loc (c : Thread nD τ) ↦[arg7.view.set]{fullShare} X7) ∗ (arg8.view.loc (c : Thread nD τ) ↦[arg8.view.set]{fullShare} X8)
    ∗ (arg14.view.loc (c : Thread nD τ) ↦[arg14.view.set]{fullShare} X14)
    ∗ (∃ f, (arg15.view.loc (c : Thread nD τ) ↦[arg15.view.set]{fullShare} f)
        ∗ ⌜f = cont15 arg15 harg15 G (accA v62 v63 c8_i32 v65 v72 v74 c0_i32_35 v98 (arg14.view.read (Elt F) X14) (arg7.view.read (Elt F) X7) (arg8.view.read (Elt F) X8) (arg15.view.read (Elt F) G)) k⌝)
    ∗ ⌜acc = accL v62 v63 c8_i32 v65 v72 v74 c0_i32_35 v98 (arg14.view.read (Elt F) X14) k⌝)

/-- One trip of the second loop. -/
theorem step2 (𝒱 : Variants) (c : Dev nD) (bd : Option 𝒱.V) (E : Set ℕ)
    (X7 : BufTy.Contents (Elt F) arg7.view.ty) (X8 : BufTy.Contents (Elt F) arg8.view.ty)
    (X14 : BufTy.Contents (Elt F) arg14.view.ty) (G : BufTy.Contents (Elt F) arg15.view.ty) (k : Fin k0_t2_loop.trips) (acc : FVec F S32x512 .f32) :
    inv2 (F := F) v62 v63 c8_i32 v65 v72 v74 c0_i32_35 v98 arg7 arg8 arg14 arg15 harg15 c X7 X8 X14 G k acc
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v62 v63 c8_i32 v65 v72 v74 c0_i32_35 v98 k acc)
          (inv2 (F := F) v62 v63 c8_i32 v65 v72 v74 c0_i32_35 v98 arg7 arg8 arg14 arg15 harg15 c X7 X8 X14 G (k.val + 1)) := by
  have hk : k.val < 16 := Nat.lt_of_lt_of_le k.isLt k0_t2_abs.2.1
  have hz : (![0, 0] : Fin 2 → ℕ) = fun _ => 0 := by funext a; fin_cases a <;> rfl
  unfold k0_t2_body inv2
  iintro ⟨H7, H8, H14, ⟨%f, H15, %hf⟩, %hacc⟩
  subst hacc
  have hr := read_cont15 arg15 harg15 G (accA v62 v63 c8_i32 v65 v72 v74 c0_i32_35 v98 (arg14.view.read (Elt F) X14) (arg7.view.read (Elt F) X7) (arg8.view.read (Elt F) X8) (arg15.view.read (Elt F) G)) rfl k.val
  rw [← hf] at hr
  clear hf
  sl_exec
  sl_step
  isplitl [H7]; · iexact H7
  isplitl [H8]; · iexact H8
  isplitl [H14]; · iexact H14
  isplitl [H15]
  · iexists _; isplitl [H15]; · iexact H15
    ipureintro
    refine harg15.eq_unread ?_
    have key : accA v62 v63 c8_i32 v65 v72 v74 c0_i32_35 v98 (arg14.view.read (Elt F) X14) (arg7.view.read (Elt F) X7) (arg8.view.read (Elt F) X8) (arg15.view.read (Elt F) G) (k.val + 1)
      = k0_pay25 v62 v63 c8_i32 v65 v72 v74 c0_i32_35 v98 (chunkSc (arg14.view.read (Elt F) X14) k) (chunkRows (arg7.view.read (Elt F) X7) k)
          (chunkCols (arg8.view.read (Elt F) X8) k)
          (accA v62 v63 c8_i32 v65 v72 v74 c0_i32_35 v98 (arg14.view.read (Elt F) X14) (arg7.view.read (Elt F) X7) (arg8.view.read (Elt F) X8) (arg15.view.read (Elt F) G) k) := rfl
    rw [key, ← readAt_off4 arg14 X14 k, ← readAt_off5 arg7 X7 k, ← readAt_off6 arg8 X8 k, ← hr]
    refine (read_store_full arg15 f _).trans ?_
    rw [readAt_full15]
  · ipureintro
    have key : accL v62 v63 c8_i32 v65 v72 v74 c0_i32_35 v98 (arg14.view.read (Elt F) X14) (k.val + 1)
      = k0_pay26 v62 v63 c8_i32 v65 v72 v74 c0_i32_35 v98 (accL v62 v63 c8_i32 v65 v72 v74 c0_i32_35 v98 (arg14.view.read (Elt F) X14) k) (chunkSc (arg14.view.read (Elt F) X14) k) := rfl
    rw [key, ← readAt_off4 arg14 X14 k]

set_option warn.classDefReducibility false in
/-- The first loop by its invariant. -/
@[sl_loop] def loopInv1 (𝒱 : Variants) (c : Dev nD) (bd : Option 𝒱.V) (E : Set ℕ) (v94 : Vec F S1x32x512 .bf16)
    (X5 : BufTy.Contents (Elt F) arg5.view.ty) (X6 : BufTy.Contents (Elt F) arg6.view.ty) :
    LoopInv (M := 𝕄) Idealize.ShloMosaic.frame (wpE (defs₀ (F := F)) 𝒱 (c : Thread nD τ) bd) E
      k0_t1_loop.lb k0_t1_loop.ub k0_t1_loop.st Gen.k0_t1_ok (k0_pay17 (F := F))
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v62 v63 c8_i32 v65 v72 v74 c0_i32_35 v94) where
  inv := inv1 (F := F) arg5 arg6 arg14 c v94 X5 X6
  step := step1 (F := F) v62 v63 c8_i32 v65 v72 v74 c0_i32_35 i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 c bd E v94 X5 X6

set_option warn.classDefReducibility false in
/-- The second loop by its invariant. -/
@[sl_loop] def loopInv2 (𝒱 : Variants) (c : Dev nD) (bd : Option 𝒱.V) (E : Set ℕ)
    (X7 : BufTy.Contents (Elt F) arg7.view.ty) (X8 : BufTy.Contents (Elt F) arg8.view.ty)
    (X14 : BufTy.Contents (Elt F) arg14.view.ty) (G : BufTy.Contents (Elt F) arg15.view.ty) :
    LoopInv (M := 𝕄) Idealize.ShloMosaic.frame (wpE (defs₀ (F := F)) 𝒱 (c : Thread nD τ) bd) E
      k0_t2_loop.lb k0_t2_loop.ub k0_t2_loop.st Gen.k0_t2_ok (k0_pay23 (F := F))
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v62 v63 c8_i32 v65 v72 v74 c0_i32_35 v98) where
  inv := inv2 (F := F) v62 v63 c8_i32 v65 v72 v74 c0_i32_35 v98 arg7 arg8 arg14 arg15 harg15 c X7 X8 X14 G
  step := step2 (F := F) v62 v63 c8_i32 v65 v72 v74 c0_i32_35 v98 i arg1 harg1 arg2 harg2 arg3 harg3 arg4 harg4 arg5 harg5 arg6 harg6 arg7 harg7 arg8 harg8 arg9 harg9 arg10 harg10 arg11 harg11 arg12 harg12 arg13 harg13 arg14 harg14 arg15 harg15 𝒱 c bd E X7 X8 X14 G

end Cert.KernelIdeal.Hand

end
-- ==== Proof.Body.lean ====
module

public import proofs.«01_k».proof.Proof.BodyLoops
public import Idealize.ShloMosaic.Lib.VecWindow

/-! The kernel's body at one batch point: from the staged blocks to the five staged results, each an explicit function
    of the blocks. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The row number, as the kernel computes it. -/
abbrev kIota : IVec S32x4 32 := iota .tc S32x4 32 [0] iota_S32x4_d0_w32
/-- One, as the comparison of the group size with zero. -/
abbrev kOne : BitVec 32 := Scalar.extui (Scalar.cmpi .sgt 8#32 0#32)

/-- Rows `0, 4, 8, …` of the weighted values. -/
abbrev quarter0 (a : Vec F S512x32 .f32) : Vec F S128x32 .f32 := fun y =>
  a ((⟨![0, 0], S128x32.size, ![4, 1], inb_S512x32_S128x32_0_0_s_4_1⟩ : LoadRect S512x32).idx y)
/-- Rows `1, 5, 9, …` of the weighted values. -/
abbrev quarter1 (a : Vec F S512x32 .f32) : Vec F S128x32 .f32 := fun y =>
  a ((⟨![1, 0], S128x32.size, ![4, 1], inb_S512x32_S128x32_1_0_s_4_1⟩ : LoadRect S512x32).idx y)
/-- Rows `2, 6, 10, …`. -/
abbrev quarter2 (a : Vec F S512x32 .f32) : Vec F S128x32 .f32 := fun y =>
  a ((⟨![2, 0], S128x32.size, ![4, 1], inb_S512x32_S128x32_2_0_s_4_1⟩ : LoadRect S512x32).idx y)
/-- Rows `3, 7, 11, …`. -/
abbrev quarter3 (a : Vec F S512x32 .f32) : Vec F S128x32 .f32 := fun y =>
  a ((⟨![3, 0], S128x32.size, ![4, 1], inb_S512x32_S128x32_3_0_s_4_1⟩ : LoadRect S512x32).idx y)

variable (x0 : Vec F S1x32x512 .bf16) (x1 : Vec F S1x32x128 .bf16) (x2 : Vec F S1x4x128 .f32) (x3 : Vec F S1x4x128 .f32) (x4 : Vec F S1x32768x128 .i8) (x5 : Vec F S1x4x8192 .f32) (x6 : Vec F S1x32768x128 .i8) (x7 : Vec F S1x4x8192 .f32)

/-- The running maximum after all chunks. -/
def mRun : FVec F S32x512 .f32 := accM x0 x4 x5 16
/-- The running sum after all chunks. -/
def lRun : FVec F S32x512 .f32 := accL (k0_pay13 (k0_pay3 x2) (k0_pay4 x2) x1) kIota 8#32 k0_pay14 k0_pay15 kOne 0#32 (mRun x0 x4 x5) (scAll x0 x4 x5) 16
/-- The weighted values after all chunks. -/
def aRun : FVec F S512x32 .f32 := accA (k0_pay13 (k0_pay3 x2) (k0_pay4 x2) x1) kIota 8#32 k0_pay14 k0_pay15 kOne 0#32 (mRun x0 x4 x5) (scAll x0 x4 x5) x6 x7 k0_pay22 16
/-- The weight of the new token. -/
def pNew : FVec F S32x1 .f32 := k0_pay27 (k0_pay13 (k0_pay3 x2) (k0_pay4 x2) x1) kIota 8#32 k0_pay14 k0_pay15 kOne 0#32 (mRun x0 x4 x5)

/-- The attention output of one batch point. -/
def outY : FVec F S1x32x128 .f32 :=
  k0_pay1 (k0_pay12 (k0_pay6 x3) (k0_pay7 x3)) (pNew x0 x1 x2 x4 x5)
    (k0_pay29 (pNew x0 x1 x2 x4 x5) (k0_pay28 (lRun x0 x1 x2 x4 x5)))
    (k0_pay31 (quarter0 (aRun x0 x1 x2 x4 x5 x6 x7)) (quarter1 (aRun x0 x1 x2 x4 x5 x6 x7))
      (quarter2 (aRun x0 x1 x2 x4 x5 x6 x7)))
    k0_pay32 (quarter3 (aRun x0 x1 x2 x4 x5 x6 x7))

/-- The term a run of the body leaves in the attention output is the function named above. -/
theorem outY_of (arg15 : Memref sig .tc .vmem S512x32 .f32) (harg15 : arg15.IsWhole)
    {R0 x0 : Vec F S1x32x512 .bf16} {R1 x1 : Vec F S1x32x128 .bf16} {R2 x2 R3 x3 : Vec F S1x4x128 .f32} {x4 : Vec F S1x32768x128 .i8}
    {x5 : Vec F S1x4x8192 .f32} {x6 : Vec F S1x32768x128 .i8} {x7 : Vec F S1x4x8192 .f32} {T1 T2 : ℕ} {SC : Vec F S32x8192 .f32}
    {G : BufTy.Contents (Elt F) arg15.view.ty} (h0 : R0 = x0) (h1 : R1 = x1) (h2 : R2 = x2) (h3 : R3 = x3) (hT1 : T1 = 16) (hT2 : T2 = 16)
    (hS : SC = scAll x0 x4 x5) (hG : arg15.view.read (Elt F) G = k0_pay22) :
    k0_pay1 (k0_pay12 (k0_pay6 R3) (k0_pay7 R3)) (k0_pay27 (k0_pay13 (k0_pay3 R2) (k0_pay4 R2) R1) kIota 8#32 k0_pay14 k0_pay15 kOne 0#32 (accM R0 x4 x5 T1))
      (k0_pay29 (k0_pay27 (k0_pay13 (k0_pay3 R2) (k0_pay4 R2) R1) kIota 8#32 k0_pay14 k0_pay15 kOne 0#32 (accM R0 x4 x5 T1)) (k0_pay28 (accL (k0_pay13 (k0_pay3 R2) (k0_pay4 R2) R1) kIota 8#32 k0_pay14 k0_pay15 kOne 0#32 (accM R0 x4 x5 T1) SC T2)))
      (k0_pay31 (arg15.view.readAt (Elt F) (⟨![0, 0], S128x32.size, ![4, 1], inb_S512x32_S128x32_0_0_s_4_1⟩ : LoadRect S512x32)
        (cont15 arg15 harg15 G (accA (k0_pay13 (k0_pay3 R2) (k0_pay4 R2) R1) kIota 8#32 k0_pay14 k0_pay15 kOne 0#32 (accM R0 x4 x5 T1) SC x6 x7 (arg15.view.read (Elt F) G)) T2))
        (arg15.view.readAt (Elt F) (⟨![1, 0], S128x32.size, ![4, 1], inb_S512x32_S128x32_1_0_s_4_1⟩ : LoadRect S512x32)
        (cont15 arg15 harg15 G (accA (k0_pay13 (k0_pay3 R2) (k0_pay4 R2) R1) kIota 8#32 k0_pay14 k0_pay15 kOne 0#32 (accM R0 x4 x5 T1) SC x6 x7 (arg15.view.read (Elt F) G)) T2))
        (arg15.view.readAt (Elt F) (⟨![2, 0], S128x32.size, ![4, 1], inb_S512x32_S128x32_2_0_s_4_1⟩ : LoadRect S512x32)
        (cont15 arg15 harg15 G (accA (k0_pay13 (k0_pay3 R2) (k0_pay4 R2) R1) kIota 8#32 k0_pay14 k0_pay15 kOne 0#32 (accM R0 x4 x5 T1) SC x6 x7 (arg15.view.read (Elt F) G)) T2)))
      k0_pay32 (arg15.view.readAt (Elt F) (⟨![3, 0], S128x32.size, ![4, 1], inb_S512x32_S128x32_3_0_s_4_1⟩ : LoadRect S512x32)
        (cont15 arg15 harg15 G (accA (k0_pay13 (k0_pay3 R2) (k0_pay4 R2) R1) kIota 8#32 k0_pay14 k0_pay15 kOne 0#32 (accM R0 x4 x5 T1) SC x6 x7 (arg15.view.read (Elt F) G)) T2))
      = outY x0 x1 x2 x3 x4 x5 x6 x7 := by
  subst h0 h1 h2 h3 hT1 hT2 hS
  have hq : ∀ (r : LoadRect S512x32) (a : ℕ → Vec F S512x32 .f32),
      arg15.view.readAt (Elt F) r (cont15 arg15 harg15 G a 16) = fun y => a 16 (r.idx y) := by
    intro r a
    funext y
    exact congrFun (harg15.read_unread (a 16)) (r.idx y)
  rw [hq, hq, hq, hq, hG]
  rfl

set_option maxHeartbeats 1000000 in
/-- The body's triple: on whole staging memrefs the inputs come back as they were and the five results hold
    the functions of the inputs named above. -/
theorem body_triple (c : Dev nD) (i : grid0.Coords)
  (arg1 : Memref sig .tc .vmem S1x32x512 .bf16) (harg1 : arg1.IsWhole)
  (arg2 : Memref sig .tc .vmem S1x32x128 .bf16) (harg2 : arg2.IsWhole)
  (arg3 : Memref sig .tc .vmem S1x4x128 .f32) (harg3 : arg3.IsWhole)
  (arg4 : Memref sig .tc .vmem S1x4x128 .f32) (harg4 : arg4.IsWhole)
  (arg5 : Memref sig .tc .vmem S1x32768x128 .i8) (harg5 : arg5.IsWhole)
  (arg6 : Memref sig .tc .vmem S1x4x8192 .f32) (harg6 : arg6.IsWhole)
  (arg7 : Memref sig .tc .vmem S1x32768x128 .i8) (harg7 : arg7.IsWhole)
  (arg8 : Memref sig .tc .vmem S1x4x8192 .f32) (harg8 : arg8.IsWhole)
  (arg9 : Memref sig .tc .vmem S1x32x128 .f32) (harg9 : arg9.IsWhole)
  (arg10 : Memref sig .tc .vmem S1x4x128 .i8) (harg10 : arg10.IsWhole)
  (arg11 : Memref sig .tc .vmem S1x4x1 .f32) (harg11 : arg11.IsWhole)
  (arg12 : Memref sig .tc .vmem S1x4x128 .i8) (harg12 : arg12.IsWhole)
  (arg13 : Memref sig .tc .vmem S1x4x1 .f32) (harg13 : arg13.IsWhole)
  (arg14 : Memref sig .tc .vmem S32x8192 .f32) (harg14 : arg14.IsWhole)
  (arg15 : Memref sig .tc .vmem S512x32 .f32) (harg15 : arg15.IsWhole) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outY x0 x1 x2 x3 x4 x5 x6 x7) ∗ owns (c : Thread nD τ) arg10 fullShare (k0_pay8 (k0_pay4 x2)) ∗ owns (c : Thread nD τ) arg11 fullShare (k0_pay10 (k0_pay3 x2)) ∗ owns (c : Thread nD τ) arg12 fullShare (k0_pay9 (k0_pay7 x3)) ∗ owns (c : Thread nD τ) arg13 fullShare (k0_pay11 (k0_pay6 x3)) ∗ (∃ d, owns (c : Thread nD τ) arg14 fullShare d) ∗ (∃ d, owns (c : Thread nD τ) arg15 fullShare d)) -∗ K ⟨⟩))
          ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__attn_kernel_eq_skeleton]; unfold cc0__attn_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    subst hf0 hf1 hf2 hf3 hf4 hf5 hf6 hf7
    sl_exec
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    have e0 : arg1.view.readAt (Elt F) (Rect.unit (s := S1x32x512) ![0, 0, 0] S1x32x512.size inb_S1x32x512_S1x32x512_0_0_0).toLoadRect f0
        = arg1.view.read (Elt F) f0 := View.readAt_full _ _ _
    have e1 : arg2.view.readAt (Elt F) (Rect.unit (s := S1x32x128) ![0, 0, 0] S1x32x128.size inb_S1x32x128_S1x32x128_0_0_0).toLoadRect f1
        = arg2.view.read (Elt F) f1 := View.readAt_full _ _ _
    have e2 : arg3.view.readAt (Elt F) (Rect.unit (s := S1x4x128) ![0, 0, 0] S1x4x128.size inb_S1x4x128_S1x4x128_0_0_0).toLoadRect f2
        = arg3.view.read (Elt F) f2 := View.readAt_full _ _ _
    have e3 : arg4.view.readAt (Elt F) (Rect.unit (s := S1x4x128) ![0, 0, 0] S1x4x128.size inb_S1x4x128_S1x4x128_0_0_0).toLoadRect f3
        = arg4.view.read (Elt F) f3 := View.readAt_full _ _ _
    have et1 : Scf.trips k0_t1_loop.lb k0_t1_loop.ub k0_t1_loop.st = 16 := trips1
    have et2 : Scf.trips k0_t2_loop.lb k0_t2_loop.ub k0_t2_loop.st = 16 := trips2
    have e14 : arg14.view.read (Elt F) fL0 = scAll (arg1.view.read (Elt F) f0) (arg5.view.read (Elt F) f4) (arg6.view.read (Elt F) f5) := by
      funext y
      have h1 : (y 1).val < 8192 := (y 1).isLt
      have := hL3 y (by rw [et1]; omega)
      rw [e0] at this
      exact this
    have eG : arg15.view.read (Elt F) (arg15.view.writes (Elt F) arg15.view.junk
        [⟨Rect.unit (s := S512x32) ![0, 0] S512x32.size inb_S512x32_S512x32_0_0, k0_pay22 (F := F)⟩]) = k0_pay22 :=
      read_store_full arg15 _ _
    isplitl [H8]
    · iexists _; isplitr; swap; · iexact H8
      ipureintro
      refine (View.read_writes_full _ _ _ _ _).trans ?_
      exact outY_of arg15 harg15 e0 e1 e2 e3 et1 et2 e14 eG
    isplitl [H9]
    · iexists _; isplitr; swap; · iexact H9
      ipureintro
      unfold body_triple.sl.H9_1
      refine (View.read_writes_full _ _ _ _ _).trans ?_
      delta body_triple.sl.r_1
      simp only [e2, e3]
    isplitl [H10]
    · iexists _; isplitr; swap; · iexact H10
      ipureintro
      unfold body_triple.sl.H10_1
      refine (View.read_writes_full _ _ _ _ _).trans ?_
      delta body_triple.sl.r
      simp only [e2, e3]
    isplitl [H11]
    · iexists _; isplitr; swap; · iexact H11
      ipureintro
      unfold body_triple.sl.H11_1
      refine (View.read_writes_full _ _ _ _ _).trans ?_
      delta body_triple.sl.r_3
      simp only [e2, e3]
    isplitl [H12]
    · iexists _; isplitr; swap; · iexact H12
      ipureintro
      unfold body_triple.sl.H12_1
      refine (View.read_writes_full _ _ _ _ _).trans ?_
      delta body_triple.sl.r_2
      simp only [e2, e3]
    isplitl [HS0]
    · iexists _, _; isplitr; swap; · iexact HS0
      ipureintro; rfl
    iexists _, _; isplitr; swap; · iexact HS1
    ipureintro; rfl

end Cert.KernelIdeal.Hand

end
-- ==== Proof.Run.lean ====
module

public import proofs.«01_k».proof.Proof.Body

/-! The launch: the body's triple at every grid point, hence the run of the whole program with the arrays the
    pipeline writes named. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

/-- The stage of the queries against the identity at a grid point. -/
abbrev ms0_0 (t : Fin cfg0.N) : Memref sig .tc .vmem S1x32x512 .bf16 := win0_0.stage (cfg0.slots t 0)
/-- The stage of the queries against the identity is a whole array. -/
abbrev hs0_0 (t : Fin cfg0.N) : (ms0_0 t).IsWhole := hstage0_0 ((cfg0.slots t 0).cast nbuf0_0)
/-- The stage of the queries at a grid point. -/
abbrev ms0_1 (t : Fin cfg0.N) : Memref sig .tc .vmem S1x32x128 .bf16 := win0_1.stage (cfg0.slots t 1)
/-- The stage of the queries is a whole array. -/
abbrev hs0_1 (t : Fin cfg0.N) : (ms0_1 t).IsWhole := hstage0_1 ((cfg0.slots t 1).cast nbuf0_1)
/-- The stage of the new key at a grid point. -/
abbrev ms0_2 (t : Fin cfg0.N) : Memref sig .tc .vmem S1x4x128 .f32 := win0_2.stage (cfg0.slots t 2)
/-- The stage of the new key is a whole array. -/
abbrev hs0_2 (t : Fin cfg0.N) : (ms0_2 t).IsWhole := hstage0_2 ((cfg0.slots t 2).cast nbuf0_2)
/-- The stage of the new value at a grid point. -/
abbrev ms0_3 (t : Fin cfg0.N) : Memref sig .tc .vmem S1x4x128 .f32 := win0_3.stage (cfg0.slots t 3)
/-- The stage of the new value is a whole array. -/
abbrev hs0_3 (t : Fin cfg0.N) : (ms0_3 t).IsWhole := hstage0_3 ((cfg0.slots t 3).cast nbuf0_3)
/-- The stage of the codes of the cached keys at a grid point. -/
abbrev ms0_4 (t : Fin cfg0.N) : Memref sig .tc .vmem S1x32768x128 .i8 := win0_4.stage (cfg0.slots t 4)
/-- The stage of the codes of the cached keys is a whole array. -/
abbrev hs0_4 (t : Fin cfg0.N) : (ms0_4 t).IsWhole := hstage0_4 ((cfg0.slots t 4).cast nbuf0_4)
/-- The stage of the scales of the cached keys at a grid point. -/
abbrev ms0_5 (t : Fin cfg0.N) : Memref sig .tc .vmem S1x4x8192 .f32 := win0_5.stage (cfg0.slots t 5)
/-- The stage of the scales of the cached keys is a whole array. -/
abbrev hs0_5 (t : Fin cfg0.N) : (ms0_5 t).IsWhole := hstage0_5 ((cfg0.slots t 5).cast nbuf0_5)
/-- The stage of the codes of the cached values at a grid point. -/
abbrev ms0_6 (t : Fin cfg0.N) : Memref sig .tc .vmem S1x32768x128 .i8 := win0_6.stage (cfg0.slots t 6)
/-- The stage of the codes of the cached values is a whole array. -/
abbrev hs0_6 (t : Fin cfg0.N) : (ms0_6 t).IsWhole := hstage0_6 ((cfg0.slots t 6).cast nbuf0_6)
/-- The stage of the scales of the cached values at a grid point. -/
abbrev ms0_7 (t : Fin cfg0.N) : Memref sig .tc .vmem S1x4x8192 .f32 := win0_7.stage (cfg0.slots t 7)
/-- The stage of the scales of the cached values is a whole array. -/
abbrev hs0_7 (t : Fin cfg0.N) : (ms0_7 t).IsWhole := hstage0_7 ((cfg0.slots t 7).cast nbuf0_7)
/-- The stage of the attention output at a grid point. -/
abbrev ms0_8 (t : Fin cfg0.N) : Memref sig .tc .vmem S1x32x128 .f32 := win0_8.stage (cfg0.slots t 8)
/-- The stage of the attention output is a whole array. -/
abbrev hs0_8 (t : Fin cfg0.N) : (ms0_8 t).IsWhole := hstage0_8 ((cfg0.slots t 8).cast nbuf0_8)
/-- The stage of the codes of the new key at a grid point. -/
abbrev ms0_9 (t : Fin cfg0.N) : Memref sig .tc .vmem S1x4x128 .i8 := win0_9.stage (cfg0.slots t 9)
/-- The stage of the codes of the new key is a whole array. -/
abbrev hs0_9 (t : Fin cfg0.N) : (ms0_9 t).IsWhole := hstage0_9 ((cfg0.slots t 9).cast nbuf0_9)
/-- The stage of the scales of the new key at a grid point. -/
abbrev ms0_10 (t : Fin cfg0.N) : Memref sig .tc .vmem S1x4x1 .f32 := win0_10.stage (cfg0.slots t 10)
/-- The stage of the scales of the new key is a whole array. -/
abbrev hs0_10 (t : Fin cfg0.N) : (ms0_10 t).IsWhole := hstage0_10 ((cfg0.slots t 10).cast nbuf0_10)
/-- The stage of the codes of the new value at a grid point. -/
abbrev ms0_11 (t : Fin cfg0.N) : Memref sig .tc .vmem S1x4x128 .i8 := win0_11.stage (cfg0.slots t 11)
/-- The stage of the codes of the new value is a whole array. -/
abbrev hs0_11 (t : Fin cfg0.N) : (ms0_11 t).IsWhole := hstage0_11 ((cfg0.slots t 11).cast nbuf0_11)
/-- The stage of the scales of the new value at a grid point. -/
abbrev ms0_12 (t : Fin cfg0.N) : Memref sig .tc .vmem S1x4x1 .f32 := win0_12.stage (cfg0.slots t 12)
/-- The stage of the scales of the new value is a whole array. -/
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S32x8192 .f32 := Memref.whole cc0_scratch0
/-- The scratch that accumulates the weighted values. -/
abbrev scM0_1 : Memref sig .tc .vmem S512x32 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data of the one pipeline on core `c`: the arrays as the region finds them; after the body at point `t`
    each input's buffer at its block and each result's buffer at the function of the blocks named in the body's triple;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY (iblk m c 0 t) (iblk m c 1 t) (iblk m c 2 t) (iblk m c 3 t) (iblk m c 4 t) (iblk m c 5 t) (iblk m c 6 t) (iblk m c 7 t)
    | ⟨9, _⟩ => k0_pay8 (k0_pay4 (iblk m c 2 t))
    | ⟨10, _⟩ => k0_pay10 (k0_pay3 (iblk m c 2 t))
    | ⟨11, _⟩ => k0_pay9 (k0_pay7 (iblk m c 3 t))
    | ⟨12, _⟩ => k0_pay11 (k0_pay6 (iblk m c 3 t))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What a grid point leaves in the stage of the queries. -/
theorem after0_1 (c : Dev nD) (t : Fin cfg0.N) : (dats m 0 c).after 1 t = iblk m c 1 t := by dsimp only [dats]
/-- What a grid point leaves in the stage of the new key. -/
theorem after0_2 (c : Dev nD) (t : Fin cfg0.N) : (dats m 0 c).after 2 t = iblk m c 2 t := by dsimp only [dats]
/-- What a grid point leaves in the stage of the new value. -/
theorem after0_3 (c : Dev nD) (t : Fin cfg0.N) : (dats m 0 c).after 3 t = iblk m c 3 t := by dsimp only [dats]
/-- What a grid point leaves in the stage of the codes of the cached keys. -/
theorem after0_4 (c : Dev nD) (t : Fin cfg0.N) : (dats m 0 c).after 4 t = iblk m c 4 t := by dsimp only [dats]
/-- What a grid point leaves in the stage of the scales of the cached keys. -/
theorem after0_5 (c : Dev nD) (t : Fin cfg0.N) : (dats m 0 c).after 5 t = iblk m c 5 t := by dsimp only [dats]
/-- What a grid point leaves in the stage of the codes of the cached values. -/
theorem after0_6 (c : Dev nD) (t : Fin cfg0.N) : (dats m 0 c).after 6 t = iblk m c 6 t := by dsimp only [dats]
/-- What a grid point leaves in the stage of the scales of the cached values. -/
theorem after0_7 (c : Dev nD) (t : Fin cfg0.N) : (dats m 0 c).after 7 t = iblk m c 7 t := by dsimp only [dats]

/-- What a grid point leaves in the stage of the attention output. -/
theorem after0_8 (c : Dev nD) (t : Fin cfg0.N) : (dats m 0 c).after 8 t = outY (iblk m c 0 t) (iblk m c 1 t) (iblk m c 2 t) (iblk m c 3 t) (iblk m c 4 t) (iblk m c 5 t) (iblk m c 6 t) (iblk m c 7 t) := by dsimp only [dats]
/-- What a grid point leaves in the stage of the codes of the new key. -/
theorem after0_9 (c : Dev nD) (t : Fin cfg0.N) : (dats m 0 c).after 9 t = k0_pay8 (k0_pay4 (iblk m c 2 t)) := by dsimp only [dats]
/-- What a grid point leaves in the stage of the scales of the new key. -/
theorem after0_10 (c : Dev nD) (t : Fin cfg0.N) : (dats m 0 c).after 10 t = k0_pay10 (k0_pay3 (iblk m c 2 t)) := by dsimp only [dats]
/-- What a grid point leaves in the stage of the codes of the new value. -/
theorem after0_11 (c : Dev nD) (t : Fin cfg0.N) : (dats m 0 c).after 11 t = k0_pay9 (k0_pay7 (iblk m c 3 t)) := by dsimp only [dats]
/-- What a grid point leaves in the stage of the scales of the new value. -/
theorem after0_12 (c : Dev nD) (t : Fin cfg0.N) : (dats m 0 c).after 12 t = k0_pay11 (k0_pay6 (iblk m c 3 t)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What a grid point finds in the stage of the queries. -/
theorem before0_1 (c : Dev nD) (t : Fin cfg0.N) (d) : (dats m 0 c).before 1 t d = iblk m c 1 t :=
  before0_1_of m (dats m 0 c) (A_eq m c 1) (after0_1 m c) t d
/-- What a grid point finds in the stage of the new key. -/
theorem before0_2 (c : Dev nD) (t : Fin cfg0.N) (d) : (dats m 0 c).before 2 t d = iblk m c 2 t :=
  before0_2_of m (dats m 0 c) (A_eq m c 2) (after0_2 m c) t d
/-- What a grid point finds in the stage of the new value. -/
theorem before0_3 (c : Dev nD) (t : Fin cfg0.N) (d) : (dats m 0 c).before 3 t d = iblk m c 3 t :=
  before0_3_of m (dats m 0 c) (A_eq m c 3) (after0_3 m c) t d
/-- What a grid point finds in the stage of the codes of the cached keys. -/
theorem before0_4 (c : Dev nD) (t : Fin cfg0.N) (d) : (dats m 0 c).before 4 t d = iblk m c 4 t :=
  before0_4_of m (dats m 0 c) (A_eq m c 4) (after0_4 m c) t d
/-- What a grid point finds in the stage of the scales of the cached keys. -/
theorem before0_5 (c : Dev nD) (t : Fin cfg0.N) (d) : (dats m 0 c).before 5 t d = iblk m c 5 t :=
  before0_5_of m (dats m 0 c) (A_eq m c 5) (after0_5 m c) t d
/-- What a grid point finds in the stage of the codes of the cached values. -/
theorem before0_6 (c : Dev nD) (t : Fin cfg0.N) (d) : (dats m 0 c).before 6 t d = iblk m c 6 t :=
  before0_6_of m (dats m 0 c) (A_eq m c 6) (after0_6 m c) t d
/-- What a grid point finds in the stage of the scales of the cached values. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((body_triple (x0 := iblk m c 0 t) (x1 := iblk m c 1 t) (x2 := iblk m c 2 t) (x3 := iblk m c 3 t) (x4 := iblk m c 4 t) (x5 := iblk m c 5 t) (x6 := iblk m c 6 t) (x7 := iblk m c 7 t) c (grid0.coords t) _ _ _ _ _ _ _ _ _ _ _ _ _ _ _ _ _ _ _ _ _ _ _ _ _ _ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE RUN: every array ends as the pipeline leaves it, every other buffer as the host lines after the region leave
    it, and every semaphore counter ends at zero. -/
theorem run_main_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := fun r =>
      Pipeline.FramePost cfgs (dats m) 0 (Pipeline.afterTail₀ cfgs (dats m) 0 (V0 m) [hostOps1]) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run_and (frame_of m ρ (dats m) (A_eq m) ((θ_run defs _ _).mono (fun _ h => h.1) (run_main_quiescent m ρ)))
    ((θ_run defs _ _).mono (fun _ h => h.2) (run_main_quiescent m ρ)))

end Cert.KernelIdeal.Hand

end
-- ==== Proof.Same.lean ====
module

public import proofs.«01_k».proof.Defs
public import proofs.«01_k».proof.Proof.Run
public import proofs.«01_k».proof.Proof.Gen.Kernel

/-! The idealized program is the kernel's own text, so that what is shown of it at any reading of the floats holds of the
    kernel: the two are equal by definition, and the frame carries over. -/

@[expose] public section

set_option maxRecDepth 16384

noncomputable section

namespace Cert.Same

open Idealize.ShloMosaic Idealize.SL.Sem

variable {F : FTy → Type} [FloatOps F]

set_option maxHeartbeats 4000000 in
/-- The kernel's body is the same program in both. -/
theorem body_eq : @Cert.Kernel.cc0__attn_kernel F _ _ = @Cert.KernelIdeal.cc0__attn_kernel F _ _ := by rfl

/-- The kernel's table of bodies is a table for the TensorCore. -/
theorem onTc_kernel : Cert.Kernel.defs₀ (F := F)
    = Defs.onTc (nD := Cert.Kernel.nD) (τ := Cert.Kernel.τ) (sig := Cert.Kernel.sig) (Λ := Cert.Kernel.Λ₀)
        (Cert.Kernel.defs₀ (F := F) .tc) := rfl

/-- The idealized kernel's table of bodies is a table for the TensorCore. -/
theorem onTc_kernelIdeal : Cert.KernelIdeal.defs₀ (F := F)
    = Defs.onTc (nD := Cert.KernelIdeal.nD) (τ := Cert.KernelIdeal.τ) (sig := Cert.KernelIdeal.sig) (Λ := Cert.KernelIdeal.Λ₀)
        (Cert.KernelIdeal.defs₀ (F := F) .tc) := rfl

set_option maxHeartbeats 8000000 in
/-- The two tables agree at every label. -/
theorem row_eq (l : Cert.Kernel.Λ₀.Label) (x : Cert.Kernel.Λ₀.Args l) :
    Cert.Kernel.defs₀ (F := F) .tc l x = Cert.KernelIdeal.defs₀ (F := F) .tc l x := by
  match l, x with
  | 0, (t, s) =>
    unfold Cert.Kernel.defs₀
    dsimp only [Defs.onTc_tc]
    rw [body_eq]
    rfl
  | ⟨_ + 1, h⟩, _ => exact absurd h (Nat.not_lt.2 (Nat.le_add_left _ _))

/-- The two tables are the same. -/
theorem defs₀_eq : Cert.Kernel.defs₀ (F := F) = Cert.KernelIdeal.defs₀ (F := F) :=
  onTc_kernel.trans ((congrArg
    (Defs.onTc (nD := Cert.Kernel.nD) (τ := Cert.Kernel.τ) (sig := Cert.Kernel.sig) (Λ := Cert.Kernel.Λ₀))
    (funext fun l => funext fun x => row_eq l x)).trans onTc_kernelIdeal.symm)

set_option maxHeartbeats 8000000 in
/-- The two programs' definitions are the same. -/
theorem defs_eq : Cert.Kernel.defs (F := F) = Cert.KernelIdeal.defs (F := F) := by
  unfold Cert.Kernel.defs
  rw [defs₀_eq]
  rfl

set_option maxHeartbeats 8000000 in
/-- The kernel as printed runs to the end, leaves its arguments unchanged and every semaphore at zero. -/
theorem frame : Cert.quiescent_Kernel (hKernel := Cert.Kernel.Gen.facts) := fun m g _ => by
  rw [defs_eq]
  exact Cert.KernelIdeal.Hand.frame (F := Bits) m g

end Cert.Same
-- ==== Proof.Arrays.lean ====
module

public import proofs.«01_k».proof.Proof.Run
public import Idealize.ShloMosaic.Lib.Pointwise
public import Idealize.ShloMosaic.Lib.Claim
public import Idealize.ShloMosaic.Lib.Pipeline.ValueKit

/-! The arrays at the ends of the run: each window's block in terms of its array, the arrays the pipeline reads in terms
    of the program's arguments, and the program's results in terms of the blocks that the grid points write. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## Where each window's block lies: block `t` of every window is batch `t` of its array. -/

/-- Block `t` of the queries against the identity is batch `t`. -/
theorem index0 : ∀ t : Fin cfg0.N, win0_0.index t = ![t.val, 0, 0] := (by decide +kernel : ∀ t : Fin grid0.N, _)
/-- Block `t` of the queries is batch `t`. -/
theorem index1 : ∀ t : Fin cfg0.N, win0_1.index t = ![t.val, 0, 0] := (by decide +kernel : ∀ t : Fin grid0.N, _)
/-- Block `t` of the new key is batch `t`. -/
theorem index2 : ∀ t : Fin cfg0.N, win0_2.index t = ![t.val, 0, 0] := (by decide +kernel : ∀ t : Fin grid0.N, _)
/-- Block `t` of the new value is batch `t`. -/
theorem index3 : ∀ t : Fin cfg0.N, win0_3.index t = ![t.val, 0, 0] := (by decide +kernel : ∀ t : Fin grid0.N, _)
/-- Block `t` of the codes of the cached keys is batch `t`. -/
theorem index4 : ∀ t : Fin cfg0.N, win0_4.index t = ![t.val, 0, 0] := (by decide +kernel : ∀ t : Fin grid0.N, _)
/-- Block `t` of the scales of the cached keys is batch `t`. -/
theorem index5 : ∀ t : Fin cfg0.N, win0_5.index t = ![t.val, 0, 0] := (by decide +kernel : ∀ t : Fin grid0.N, _)
/-- Block `t` of the codes of the cached values is batch `t`. -/
theorem index6 : ∀ t : Fin cfg0.N, win0_6.index t = ![t.val, 0, 0] := (by decide +kernel : ∀ t : Fin grid0.N, _)
/-- Block `t` of the scales of the cached values is batch `t`. -/
theorem index7 : ∀ t : Fin cfg0.N, win0_7.index t = ![t.val, 0, 0] := (by decide +kernel : ∀ t : Fin grid0.N, _)
/-- Block `t` of the attention output is batch `t`. -/
theorem index8 : ∀ t : Fin cfg0.N, win0_8.index t = ![t.val, 0, 0] := (by decide +kernel : ∀ t : Fin grid0.N, _)
/-- Block `t` of the codes of the new key is batch `t`. -/
theorem index9 : ∀ t : Fin cfg0.N, win0_9.index t = ![t.val, 0, 0] := (by decide +kernel : ∀ t : Fin grid0.N, _)
/-- Block `t` of the scales of the new key is batch `t`. -/
theorem index10 : ∀ t : Fin cfg0.N, win0_10.index t = ![t.val, 0, 0] := (by decide +kernel : ∀ t : Fin grid0.N, _)
/-- Block `t` of the codes of the new value is batch `t`. -/
theorem index11 : ∀ t : Fin cfg0.N, win0_11.index t = ![t.val, 0, 0] := (by decide +kernel : ∀ t : Fin grid0.N, _)
/-- Block `t` of the scales of the new value is batch `t`. -/
theorem index12 : ∀ t : Fin cfg0.N, win0_12.index t = ![t.val, 0, 0] := (by decide +kernel : ∀ t : Fin grid0.N, _)

/-- The grid has sixteen points, one per batch element. -/
theorem N_eq : cfg0.N = 16 := by decide +kernel

/-- The grid point of batch element `b`. -/
def pt (b : Fin 16) : Fin cfg0.N := ⟨b.val, by rw [N_eq]; exact b.isLt⟩

/-! ## The blocks that a grid point reads, in terms of their arrays. -/

/-- The block of the queries against the identity that a grid point reads is its batch. -/
theorem iblk0 (c : Dev nD) (b : Fin 16) (x : S1x32x512.Idx) :
    iblk m c 0 (pt b) x = V m c main_v13 (ix3 b (x 1) (x 2)) := by
  blk_simp [iblk]
  refine congrArg _ ?_
  blk_ext [index0, pt]

/-- The block of the queries that a grid point reads is its batch. -/
theorem iblk1 (c : Dev nD) (b : Fin 16) (x : S1x32x128.Idx) :
    iblk m c 1 (pt b) x = V m c main_v14 (ix3 b (x 1) (x 2)) := by
  blk_simp [iblk]
  refine congrArg _ ?_
  blk_ext [index1, pt]

/-- The block of the new key that a grid point reads is its batch. -/
theorem iblk2 (c : Dev nD) (b : Fin 16) (x : S1x4x128.Idx) :
    iblk m c 2 (pt b) x = V m c main_v19 (ix3 b (x 1) (x 2)) := by
  blk_simp [iblk]
  refine congrArg _ ?_
  blk_ext [index2, pt]

/-- The block of the new value that a grid point reads is its batch. -/
theorem iblk3 (c : Dev nD) (b : Fin 16) (x : S1x4x128.Idx) :
    iblk m c 3 (pt b) x = V m c main_v20 (ix3 b (x 1) (x 2)) := by
  blk_simp [iblk]
  refine congrArg _ ?_
  blk_ext [index3, pt]

/-- The block of the codes of the cached keys that a grid point reads is its batch. -/
theorem iblk4 (c : Dev nD) (b : Fin 16) (x : S1x32768x128.Idx) :
    iblk m c 4 (pt b) x = V m c main_v15 (ix3 b (x 1) (x 2)) := by
  blk_simp [iblk]
  refine congrArg _ ?_
  blk_ext [index4, pt]

/-- The block of the scales of the cached keys that a grid point reads is its batch. -/
theorem iblk5 (c : Dev nD) (b : Fin 16) (x : S1x4x8192.Idx) :
    iblk m c 5 (pt b) x = V m c main_v17 (ix3 b (x 1) (x 2)) := by
  blk_simp [iblk]
  refine congrArg _ ?_
  blk_ext [index5, pt]

/-- The block of the codes of the cached values that a grid point reads is its batch. -/
theorem iblk6 (c : Dev nD) (b : Fin 16) (x : S1x32768x128.Idx) :
    iblk m c 6 (pt b) x = V m c main_v16 (ix3 b (x 1) (x 2)) := by
  blk_simp [iblk]
  refine congrArg _ ?_
  blk_ext [index6, pt]

/-- The block of the scales of the cached values that a grid point reads is its batch. -/
theorem iblk7 (c : Dev nD) (b : Fin 16) (x : S1x4x8192.Idx) :
    iblk m c 7 (pt b) x = V m c main_v18 (ix3 b (x 1) (x 2)) := by
  blk_simp [iblk]
  refine congrArg _ ?_
  blk_ext [index7, pt]

/-! ## The arrays after the run, in terms of the blocks that the grid points write. -/

/-- After the run, batch `b` of the attention output is what grid point `b` wrote. -/
theorem final8 (c : Dev nD) : (dats m 0 c).arrAt 8 cfg0.N
    = fun i : S16x32x128.Idx => outY (iblk m c 0 (pt (i 0))) (iblk m c 1 (pt (i 0))) (iblk m c 2 (pt (i 0))) (iblk m c 3 (pt (i 0)))
          (iblk m c 4 (pt (i 0))) (iblk m c 5 (pt (i 0))) (iblk m c 6 (pt (i 0))) (iblk m c 7 (pt (i 0))) (ix3 0 (i 1) (i 2)) := by
  refine (dats m 0 c).arrAt_eq_of_covers 8 _ (by decide +kernel) fun t hf y => ?_
  blk_simp
  rw [after0_8]
  have e : pt (((cfg0.win 8).blk t).view.emb y 0) = t := by
    refine Fin.ext ?_
    have h0 : ((y 0 : Fin _) : ℕ) < 1 := (y 0).isLt
    have h : (((cfg0.win 8).blk t).view.emb y 0 : ℕ) = t.val := by
      blk_simp [index8]
    exact h
  beta_reduce
  rw [e]
  refine congrArg _ ?_
  blk_ext [index8]

/-- After the run, batch `b` of the codes of the new key is what grid point `b` wrote. -/
theorem final9 (c : Dev nD) : (dats m 0 c).arrAt 9 cfg0.N
    = fun i : S16x4x128.Idx => k0_pay8 (k0_pay4 (iblk m c 2 (pt (i 0)))) (ix3 0 (i 1) (i 2)) := by
  refine (dats m 0 c).arrAt_eq_of_covers 9 _ (by decide +kernel) fun t hf y => ?_
  blk_simp
  rw [after0_9]
  have e : pt (((cfg0.win 9).blk t).view.emb y 0) = t := by
    refine Fin.ext ?_
    have h0 : ((y 0 : Fin _) : ℕ) < 1 := (y 0).isLt
    have h : (((cfg0.win 9).blk t).view.emb y 0 : ℕ) = t.val := by
      blk_simp [index9]
    exact h
  beta_reduce
  rw [e]
  refine congrArg _ ?_
  blk_ext [index9]

/-- After the run, batch `b` of the scales of the new key is what grid point `b` wrote. -/
theorem final10 (c : Dev nD) : (dats m 0 c).arrAt 10 cfg0.N
    = fun i : S16x4x1.Idx => k0_pay10 (k0_pay3 (iblk m c 2 (pt (i 0)))) (ix3 0 (i 1) (i 2)) := by
  refine (dats m 0 c).arrAt_eq_of_covers 10 _ (by decide +kernel) fun t hf y => ?_
  blk_simp
  rw [after0_10]
  have e : pt (((cfg0.win 10).blk t).view.emb y 0) = t := by
    refine Fin.ext ?_
    have h0 : ((y 0 : Fin _) : ℕ) < 1 := (y 0).isLt
    have h : (((cfg0.win 10).blk t).view.emb y 0 : ℕ) = t.val := by
      blk_simp [index10]
    exact h
  beta_reduce
  rw [e]
  refine congrArg _ ?_
  blk_ext [index10]

/-- After the run, batch `b` of the codes of the new value is what grid point `b` wrote. -/
theorem final11 (c : Dev nD) : (dats m 0 c).arrAt 11 cfg0.N
    = fun i : S16x4x128.Idx => k0_pay9 (k0_pay7 (iblk m c 3 (pt (i 0)))) (ix3 0 (i 1) (i 2)) := by
  refine (dats m 0 c).arrAt_eq_of_covers 11 _ (by decide +kernel) fun t hf y => ?_
  blk_simp
  rw [after0_11]
  have e : pt (((cfg0.win 11).blk t).view.emb y 0) = t := by
    refine Fin.ext ?_
    have h0 : ((y 0 : Fin _) : ℕ) < 1 := (y 0).isLt
    have h : (((cfg0.win 11).blk t).view.emb y 0 : ℕ) = t.val := by
      blk_simp [index11]
    exact h
  beta_reduce
  rw [e]
  refine congrArg _ ?_
  blk_ext [index11]

/-- After the run, batch `b` of the scales of the new value is what grid point `b` wrote. -/
theorem final12 (c : Dev nD) : (dats m 0 c).arrAt 12 cfg0.N
    = fun i : S16x4x1.Idx => k0_pay11 (k0_pay6 (iblk m c 3 (pt (i 0)))) (ix3 0 (i 1) (i 2)) := by
  refine (dats m 0 c).arrAt_eq_of_covers 12 _ (by decide +kernel) fun t hf y => ?_
  blk_simp
  rw [after0_12]
  have e : pt (((cfg0.win 12).blk t).view.emb y 0) = t := by
    refine Fin.ext ?_
    have h0 : ((y 0 : Fin _) : ℕ) < 1 := (y 0).isLt
    have h : (((cfg0.win 12).blk t).view.emb y 0 : ℕ) = t.val := by
      blk_simp [index12]
    exact h
  beta_reduce
  rw [e]
  refine congrArg _ ?_
  blk_ext [index12]

end Cert.KernelIdeal.Hand
-- ==== Proof.Entry.lean ====
module

public import proofs.«01_k».proof.Proof.Arrays

/-! What the arrays hold that the pipeline reads, and what the program returns, both over the extended reals: the host
    operations before the launch re-index the arguments (and place the queries against a 4 by 4 identity), those after it
    re-index the written arrays. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.KernelIdeal.Gen

variable (m : (ℓ : Loc nD τ sig) → Buf (Elt Ideal) ℓ) (ρ : Dev nD → PrngReg)

/-- The four by four identity as the host computes it: one on the diagonal, zero off it. -/
theorem eye_eq : ∀ a b : Fin 4, FloatOps.uitofp (F := Ideal) FTy.bf16
    (IntOp.cmpi CmpIPredicate.eq (IntOp.addi (BitVec.ofNat 32 a.val) 0#32) (BitVec.ofNat 32 b.val))
      = if a = b then (1 : EReal) else 0 := by
  intro a b
  have h : IntOp.cmpi CmpIPredicate.eq (IntOp.addi (BitVec.ofNat 32 a.val) 0#32) (BitVec.ofNat 32 b.val)
      = if a = b then 1#1 else 0#1 := by
    revert a b; decide
  rw [h]
  split
  · show (((1#1 : BitVec 1).toNat : ℝ) : EReal) = 1
    simp
  · show (((0#1 : BitVec 1).toNat : ℝ) : EReal) = 0
    simp

/-! ## The program's arguments, as launched. -/

/-- The queries. -/
abbrev arg0 (c : Dev nD) : Vec Ideal S16x1x4096 .f32 := m ((c.tc : Thread nD τ).loc main_arg0)
/-- The new key. -/
abbrev arg1 (c : Dev nD) : Vec Ideal S16x1x4x128 .f32 := m ((c.tc : Thread nD τ).loc main_arg1)
/-- The new value. -/
abbrev arg2 (c : Dev nD) : Vec Ideal S16x1x4x128 .f32 := m ((c.tc : Thread nD τ).loc main_arg2)
/-- The codes of the cached keys. -/
abbrev arg3 (c : Dev nD) : Vec Ideal S16x8192x4x128 .i8 := m ((c.tc : Thread nD τ).loc main_arg3)
/-- The scales of the cached keys. -/
abbrev arg4 (c : Dev nD) : Vec Ideal S16x8192x4 .f32 := m ((c.tc : Thread nD τ).loc main_arg4)
/-- The codes of the cached values. -/
abbrev arg5 (c : Dev nD) : Vec Ideal S16x8192x4x128 .i8 := m ((c.tc : Thread nD τ).loc main_arg5)
/-- The scales of the cached values. -/
abbrev arg6 (c : Dev nD) : Vec Ideal S16x8192x4 .f32 := m ((c.tc : Thread nD τ).loc main_arg6)

/-- The queries against the identity: query entry `e / 4` of head `h`, kept only where `e % 4` is the head's group. -/
theorem V_v13 (c : Dev nD) (b : Fin 16) (h : Fin 32) (d : Fin 128) (n : Fin 4) :
    (V m c main_v13 : Vec Ideal S16x32x512 .bf16) (ix3 b h ⟨4 * d.val + n.val, by omega⟩)
      = (arg0 m c (ix3 b 0 ⟨128 * h.val + d.val, by omega⟩) : EReal)
        * (if (⟨h.val / 8, by omega⟩ : Fin 4) = n then (1 : EReal) else 0) := by
  unfold V V0 hostOps0
  simp only [List.flatten_cons, List.flatten_nil, List.append_nil]
  after_results
  pointwise
  have e0 := eye_eq ⟨h.val / 8, by omega⟩ n
  dsimp only at e0
  have e1 : (⟨h.val / 8 * 1024 + h.val % 8 * 128 + d.val, by omega⟩ : Fin 4096)
      = ⟨128 * h.val + d.val, by omega⟩ := Fin.ext (by dsimp only; omega)
  have e2 : (4 * d.val + n.val) % 4 = n.val := by omega
  simp only [e2, e0]
  exact congrArg (fun z : Fin 4096 => (arg0 m c (ix3 b 0 z) : EReal) * _) e1

/-- The queries as the second window reads them. -/
theorem V_v14 (c : Dev nD) (b : Fin 16) (h : Fin 32) (d : Fin 128) :
    (V m c main_v14 : Vec Ideal S16x32x128 .bf16) (ix3 b h d)
      = arg0 m c (ix3 b 0 ⟨128 * h.val + d.val, by omega⟩) := by
  unfold V V0 hostOps0
  simp only [List.flatten_cons, List.flatten_nil, List.append_nil]
  after_results
  pointwise
  have e1 : (⟨h.val / 8 * 1024 + h.val % 8 * 128 + d.val, by omega⟩ : Fin 4096)
      = ⟨128 * h.val + d.val, by omega⟩ := Fin.ext (by dsimp only; omega)
  rw [e1]

/-- The new keys as its window reads them. -/
theorem V_v19 (c : Dev nD) (b : Fin 16) (n : Fin 4) (d : Fin 128) :
    (V m c main_v19 : Vec Ideal S16x4x128 .f32) (ix3 b n d)
      = arg1 m c (ix4 b 0 n d) := by
  unfold V V0 hostOps0
  simp only [List.flatten_cons, List.flatten_nil, List.append_nil]
  after_results
  pointwise

/-- The new values as its window reads them. -/
theorem V_v20 (c : Dev nD) (b : Fin 16) (n : Fin 4) (d : Fin 128) :
    (V m c main_v20 : Vec Ideal S16x4x128 .f32) (ix3 b n d)
      = arg2 m c (ix4 b 0 n d) := by
  unfold V V0 hostOps0
  simp only [List.flatten_cons, List.flatten_nil, List.append_nil]
  after_results
  pointwise

/-- The cached key codes as their window reads them: position `t`, group `n` in row `4 t + n`. -/
theorem V_v15 (c : Dev nD) (b : Fin 16) (t : Fin 8192) (n : Fin 4) (d : Fin 128) :
    (V m c main_v15 : Vec Ideal S16x32768x128 .i8) (ix3 b ⟨4 * t.val + n.val, by omega⟩ d)
      = arg3 m c (ix4 b t n d) := by
  unfold V V0 hostOps0
  simp only [List.flatten_cons, List.flatten_nil, List.append_nil]
  after_results
  pointwise

/-- The cached value codes as their window reads them: position `t`, group `n` in row `4 t + n`. -/
theorem V_v16 (c : Dev nD) (b : Fin 16) (t : Fin 8192) (n : Fin 4) (d : Fin 128) :
    (V m c main_v16 : Vec Ideal S16x32768x128 .i8) (ix3 b ⟨4 * t.val + n.val, by omega⟩ d)
      = arg5 m c (ix4 b t n d) := by
  unfold V V0 hostOps0
  simp only [List.flatten_cons, List.flatten_nil, List.append_nil]
  after_results
  pointwise

/-- The cached key scales as their window reads them. -/
theorem V_v17 (c : Dev nD) (b : Fin 16) (n : Fin 4) (t : Fin 8192) :
    (V m c main_v17 : Vec Ideal S16x4x8192 .f32) (ix3 b n t)
      = arg4 m c (ix3 b t n) := by
  unfold V V0 hostOps0
  simp only [List.flatten_cons, List.flatten_nil, List.append_nil]
  after_results
  pointwise

/-- The cached value scales as their window reads them. -/
theorem V_v18 (c : Dev nD) (b : Fin 16) (n : Fin 4) (t : Fin 8192) :
    (V m c main_v18 : Vec Ideal S16x4x8192 .f32) (ix3 b n t)
      = arg6 m c (ix3 b t n) := by
  unfold V V0 hostOps0
  simp only [List.flatten_cons, List.flatten_nil, List.append_nil]
  after_results
  pointwise

end Cert.KernelIdeal.Hand
-- ==== Proof.Exit.lean ====
module

public import proofs.«01_k».proof.Proof.Arrays

/-! What the program returns, over the extended reals: the host operations after the launch re-index the arrays that the
    grid points wrote. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)
open Cert.KernelIdeal.Gen

variable (m : (ℓ : Loc nD τ sig) → Buf (Elt Ideal) ℓ) (ρ : Dev nD → PrngReg)

/-- The attention output, head `h`, entry `d`. -/
theorem W_v22 (c : Dev nD) (b : Fin 16) (h : Fin 32) (d : Fin 128) :
    (Pipeline.afterTail₀ cfgs (dats m) 0 (V0 m) [hostOps1] c main_v22 : Vec Ideal S16x1x4096 .f32) (ix3 b 0 ⟨128 * h.val + d.val, by omega⟩)
      = outY (iblk m c 0 (pt b)) (iblk m c 1 (pt b)) (iblk m c 2 (pt b)) (iblk m c 3 (pt b))
          (iblk m c 4 (pt b)) (iblk m c 5 (pt b)) (iblk m c 6 (pt b)) (iblk m c 7 (pt b)) (ix3 0 h d) := by
  have hw : Pipeline.withArrays (cfgs 0).spec c (V0 m c) (fun w => (dats m 0 c).arrAt w (cfgs 0).N)
      (Proc.devRef .tc main_v21_0) = (dats m 0 c).arrAt 8 cfg0.N :=
    Pipeline.withArrays_arr spec0 (by decide) c (V0 m c) (fun w => (dats m 0 c).arrAt w cfg0.N) 8
  unfold Pipeline.afterTail₀ hostOps1
  simp only [List.flatten_cons, List.flatten_nil, List.append_nil]
  after_results
  obtain ⟨G, hG⟩ : ∃ G : Vec Ideal S16x32x128 .f32, G = (dats m 0 c).arrAt 8 cfg0.N := ⟨_, rfl⟩
  rw [hw, ← hG]
  pointwise
  rw [hG, final8]
  rfl

/-- The new key codes. -/
theorem W_v23 (c : Dev nD) (b : Fin 16) (n : Fin 4) (d : Fin 128) :
    (Pipeline.afterTail₀ cfgs (dats m) 0 (V0 m) [hostOps1] c main_v23 : Vec Ideal S16x1x4x128 .i8) (ix4 b 0 n d)
      = k0_pay8 (k0_pay4 (iblk m c 2 (pt b))) (ix3 0 n d) := by
  have hw : Pipeline.withArrays (cfgs 0).spec c (V0 m c) (fun w => (dats m 0 c).arrAt w (cfgs 0).N)
      (Proc.devRef .tc main_v21_1) = (dats m 0 c).arrAt 9 cfg0.N :=
    Pipeline.withArrays_arr spec0 (by decide) c (V0 m c) (fun w => (dats m 0 c).arrAt w cfg0.N) 9
  unfold Pipeline.afterTail₀ hostOps1
  simp only [List.flatten_cons, List.flatten_nil, List.append_nil]
  after_results
  obtain ⟨G, hG⟩ : ∃ G : Vec Ideal S16x4x128 .i8, G = (dats m 0 c).arrAt 9 cfg0.N := ⟨_, rfl⟩
  rw [hw, ← hG]
  pointwise
  rw [hG, final9]
  rfl

/-- The new key scales. -/
theorem W_v24 (c : Dev nD) (b : Fin 16) (n : Fin 4) :
    (Pipeline.afterTail₀ cfgs (dats m) 0 (V0 m) [hostOps1] c main_v24 : Vec Ideal S16x1x4 .f32) (ix3 b 0 n)
      = k0_pay10 (k0_pay3 (iblk m c 2 (pt b))) (ix3 0 n 0) := by
  have hw : Pipeline.withArrays (cfgs 0).spec c (V0 m c) (fun w => (dats m 0 c).arrAt w (cfgs 0).N)
      (Proc.devRef .tc main_v21_2) = (dats m 0 c).arrAt 10 cfg0.N :=
    Pipeline.withArrays_arr spec0 (by decide) c (V0 m c) (fun w => (dats m 0 c).arrAt w cfg0.N) 10
  unfold Pipeline.afterTail₀ hostOps1
  simp only [List.flatten_cons, List.flatten_nil, List.append_nil]
  after_results
  obtain ⟨G, hG⟩ : ∃ G : Vec Ideal S16x4x1 .f32, G = (dats m 0 c).arrAt 10 cfg0.N := ⟨_, rfl⟩
  rw [hw, ← hG]
  pointwise
  rw [hG, final10]
  rfl

/-- The new value codes. -/
theorem W_v25 (c : Dev nD) (b : Fin 16) (n : Fin 4) (d : Fin 128) :
    (Pipeline.afterTail₀ cfgs (dats m) 0 (V0 m) [hostOps1] c main_v25 : Vec Ideal S16x1x4x128 .i8) (ix4 b 0 n d)
      = k0_pay9 (k0_pay7 (iblk m c 3 (pt b))) (ix3 0 n d) := by
  have hw : Pipeline.withArrays (cfgs 0).spec c (V0 m c) (fun w => (dats m 0 c).arrAt w (cfgs 0).N)
      (Proc.devRef .tc main_v21_3) = (dats m 0 c).arrAt 11 cfg0.N :=
    Pipeline.withArrays_arr spec0 (by decide) c (V0 m c) (fun w => (dats m 0 c).arrAt w cfg0.N) 11
  unfold Pipeline.afterTail₀ hostOps1
  simp only [List.flatten_cons, List.flatten_nil, List.append_nil]
  after_results
  obtain ⟨G, hG⟩ : ∃ G : Vec Ideal S16x4x128 .i8, G = (dats m 0 c).arrAt 11 cfg0.N := ⟨_, rfl⟩
  rw [hw, ← hG]
  pointwise
  rw [hG, final11]
  rfl

/-- The new value scales. -/
theorem W_v26 (c : Dev nD) (b : Fin 16) (n : Fin 4) :
    (Pipeline.afterTail₀ cfgs (dats m) 0 (V0 m) [hostOps1] c main_v26 : Vec Ideal S16x1x4 .f32) (ix3 b 0 n)
      = k0_pay11 (k0_pay6 (iblk m c 3 (pt b))) (ix3 0 n 0) := by
  have hw : Pipeline.withArrays (cfgs 0).spec c (V0 m c) (fun w => (dats m 0 c).arrAt w (cfgs 0).N)
      (Proc.devRef .tc main_v21_4) = (dats m 0 c).arrAt 12 cfg0.N :=
    Pipeline.withArrays_arr spec0 (by decide) c (V0 m c) (fun w => (dats m 0 c).arrAt w cfg0.N) 12
  unfold Pipeline.afterTail₀ hostOps1
  simp only [List.flatten_cons, List.flatten_nil, List.append_nil]
  after_results
  obtain ⟨G, hG⟩ : ∃ G : Vec Ideal S16x4x1 .f32, G = (dats m 0 c).arrAt 12 cfg0.N := ⟨_, rfl⟩
  rw [hw, ← hG]
  pointwise
  rw [hG, final12]
  rfl

end Cert.KernelIdeal.Hand
-- ==== Proof.Spec.lean ====
module

public import Idealize.ShloMosaic.Lib.Pointwise

/-! The mathematics that both programs compute, over the extended reals: the quantiser of one row of 128 entries, the score
    of a query against a key, and the softmax average over the cached positions and the one new position. -/

@[expose] public section

set_option maxRecDepth 16384

noncomputable section

namespace Cert.Spec

open Idealize.ShloMosaic

/-- The largest absolute value of a row. -/
def amax (r : Fin 128 → EReal) : EReal :=
  Finset.fold max (Ideal.ofBits .f32 0xFF800000#32) (fun d => max (r d) (-(r d))) Finset.univ

/-- The row's scale: its largest absolute value over 127, or 1 for a row of zeros. -/
def qScale (r : Fin 128 → EReal) : EReal :=
  if 0 < amax r then Ideal.div (amax r) (Ideal.ofBits .f32 0x42FE0000#32) else 1

/-- The row's entry over its scale, rounded to the nearest integer (ties to even) and kept within ±127. -/
def qRound (r : Fin 128 → EReal) (d : Fin 128) : EReal :=
  min (Ideal.ofBits .f32 0x42FE0000#32)
    (max (Ideal.ofBits .f32 0xC2FE0000#32) (Ideal.liftRound Ideal.roundHalfEven (Ideal.div (r d) (qScale r))))

/-- The code of a row's entry, eight bits. -/
def qCode (r : Fin 128 → EReal) (d : Fin 128) : BitVec 8 := Ideal.fptosi 8 (qRound r d)

/-- What a code and a scale stand for. -/
def deq (k : BitVec 8) (s : EReal) : EReal := ((k.toInt : ℝ) : EReal) * s

/-- The score of a query against a key: their product over the square root of 128. -/
def score (q k : Fin 128 → EReal) : EReal := (∑ d, q d * k d) * Ideal.ofBits .f32 0x3DB504F3#32

/-- The largest of the scores. -/
def top (s : Fin 8192 → EReal) (s' : EReal) : EReal := max (Finset.univ.sup s) s'

/-- The softmax average: scores `s` and values `v` of the cached positions, `s'` and `v'` of the new one. -/
def attn (s : Fin 8192 → EReal) (s' : EReal) (v : Fin 8192 → EReal) (v' : EReal) : EReal :=
  Ideal.div ((∑ t, v t * Ideal.exp (s t - top s s')) + v' * Ideal.exp (s' - top s s'))
    ((∑ t, Ideal.exp (s t - top s s')) + Ideal.exp (s' - top s s'))

/-! ## The words of the constants -/

/-- The literal that starts a maximum is minus infinity. -/
theorem ofBits_neg_inf : Ideal.ofBits .f32 0xFF800000#32 = ⊥ := by
  simp [Ideal.ofBits, Ideal.ieee]

/-- The literal 127. -/
theorem ofBits_127 : Ideal.ofBits .f32 0x42FE0000#32 = ((127 : ℝ) : EReal) := by
  simp [Ideal.ofBits, Ideal.ieee]
  rw [← EReal.coe_mul]
  norm_num

/-- The literal -127. -/
theorem ofBits_neg_127 : Ideal.ofBits .f32 0xC2FE0000#32 = ((-127 : ℝ) : EReal) := by
  simp [Ideal.ofBits, Ideal.ieee]
  rw [← EReal.coe_mul]
  norm_num

/-- A running maximum from the least value is the supremum. -/
theorem fold_max_eq_sup {ι : Type} (s : Finset ι) (f : ι → EReal) : Finset.fold max ⊥ f s = s.sup f := rfl

/-- The supremum over one more position is the larger of the supremum over the others and the last. -/
theorem sup_castSucc {n : ℕ} (f : Fin (n + 1) → EReal) :
    Finset.univ.sup f = max (Finset.univ.sup fun i : Fin n => f i.castSucc) (f (Fin.last n)) := by
  apply le_antisymm
  · refine Finset.sup_le fun i _ => ?_
    induction i using Fin.lastCases with
    | last => exact le_max_right _ _
    | cast i => exact le_trans (Finset.le_sup (f := fun i : Fin n => f i.castSucc) (Finset.mem_univ i)) (le_max_left _ _)
  · exact max_le (Finset.sup_le fun i _ => Finset.le_sup (Finset.mem_univ _)) (Finset.le_sup (Finset.mem_univ _))

/-- The lesser of two reals, in the extended reals. -/
theorem coe_min (a b : ℝ) : ((min a b : ℝ) : EReal) = min (a : EReal) (b : EReal) := EReal.coe_strictMono.monotone.map_min
/-- The greater of two reals, in the extended reals. -/
theorem coe_max (a b : ℝ) : ((max a b : ℝ) : EReal) = max (a : EReal) (b : EReal) := EReal.coe_strictMono.monotone.map_max

/-- Narrowing a clamped number to eight bits directly or by way of 32 bits gives the same word. -/
theorem fptosi_32_8 (x : EReal) :
    (Ideal.fptosi 32 (min (Ideal.ofBits .f32 0x42FE0000#32) (max (Ideal.ofBits .f32 0xC2FE0000#32) x))).setWidth 8
      = Ideal.fptosi 8 (min (Ideal.ofBits .f32 0x42FE0000#32) (max (Ideal.ofBits .f32 0xC2FE0000#32) x)) := by
  rw [ofBits_127, ofBits_neg_127]
  obtain ⟨r, hr, hlo, hhi⟩ : ∃ r : ℝ, min ((127 : ℝ) : EReal) (max ((-127 : ℝ) : EReal) x) = (r : EReal) ∧ -127 ≤ r ∧ r ≤ 127 := by
    induction x with
    | bot => exact ⟨-127, by rw [max_eq_left bot_le, ← coe_min]; norm_num, by norm_num, by norm_num⟩
    | top => exact ⟨127, by rw [max_eq_right le_top, min_eq_left le_top], by norm_num, by norm_num⟩
    | coe r => exact ⟨min 127 (max (-127) r), by rw [← coe_max, ← coe_min], by
        refine le_min (by norm_num) (le_max_left _ _), min_le_left _ _⟩
  rw [hr]
  unfold Ideal.fptosi
  rw [Ideal.toIntClamped_coe, Ideal.toIntClamped_coe]
  have hb : -127 ≤ (if 0 ≤ r then ⌊r⌋ else ⌈r⌉) ∧ (if 0 ≤ r then ⌊r⌋ else ⌈r⌉) ≤ 127 := by
    split
    · exact ⟨Int.le_floor.2 (by push_cast; exact hlo), Int.floor_le_iff.2 (by push_cast; linarith)⟩
    · exact ⟨Int.le_ceil_iff.2 (by push_cast; linarith), Int.ceil_le.2 (by push_cast; exact hhi)⟩
  obtain ⟨h1, h2⟩ := hb
  generalize (if 0 ≤ r then ⌊r⌋ else ⌈r⌉) = z at h1 h2
  have e1 : max (-((2 ^ (32 - 1) : ℕ) : ℤ)) (min (((2 ^ (32 - 1) : ℕ) : ℤ) - 1) z) = z := by norm_num; omega
  have e2 : max (-((2 ^ (8 - 1) : ℕ) : ℤ)) (min (((2 ^ (8 - 1) : ℕ) : ℤ) - 1) z) = z := by norm_num; omega
  rw [e1, e2]
  apply BitVec.eq_of_toNat_eq
  simp only [BitVec.toNat_setWidth, BitVec.toNat_ofInt]
  omega

end Cert.Spec
-- ==== Proof.KernelQuant.lean ====
module

public import proofs.«01_k».proof.Proof.Gen.KernelIdeal.Skeleton
public import proofs.«01_k».proof.Proof.Spec

/-! The kernel's quantiser, over the extended reals: the payloads that a grid point computes from the new keys and values
    are the row's scale and codes. -/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- Row `n` of a block of four rows. -/
def row (x : Vec Ideal S1x4x128 .f32) (n : Fin 4) : Fin 128 → EReal := fun d => x (ix3 0 n d)

/-- The kernel's scale of a row of the new key. -/
theorem pay3_apply (x : Vec Ideal S1x4x128 .f32) (n : Fin 4) :
    k0_pay3 x (ix2 n 0) = Spec.qScale (row x n) := by
  unfold k0_pay3
  pointwise [k0_pay2]
  rfl

/-- The kernel's scale of a row of the new value. -/
theorem pay6_apply (x : Vec Ideal S1x4x128 .f32) (n : Fin 4) :
    k0_pay6 x (ix2 n 0) = Spec.qScale (row x n) := by
  unfold k0_pay6
  pointwise [k0_pay5]
  rfl

/-- The kernel's codes of a row of the new key. -/
theorem pay4_apply (x : Vec Ideal S1x4x128 .f32) (n : Fin 4) (d : Fin 128) :
    k0_pay4 x (ix2 n d) = Spec.qCode (row x n) d := by
  unfold k0_pay4
  pointwise [k0_pay2]
  rw [pay3_apply]
  rfl

/-- The kernel's codes of a row of the new value. -/
theorem pay7_apply (x : Vec Ideal S1x4x128 .f32) (n : Fin 4) (d : Fin 128) :
    k0_pay7 x (ix2 n d) = Spec.qCode (row x n) d := by
  unfold k0_pay7
  pointwise [k0_pay5]
  rw [pay6_apply]
  rfl

/-- The stored codes of the new key. -/
theorem pay8_apply (x : Vec Ideal S1x4x128 .f32) (n : Fin 4) (d : Fin 128) :
    k0_pay8 (k0_pay4 x) (ix3 0 n d) = Spec.qCode (row x n) d := by
  unfold k0_pay8
  pointwise
  exact pay4_apply x n d

/-- The stored codes of the new value. -/
theorem pay9_apply (x : Vec Ideal S1x4x128 .f32) (n : Fin 4) (d : Fin 128) :
    k0_pay9 (k0_pay7 x) (ix3 0 n d) = Spec.qCode (row x n) d := by
  unfold k0_pay9
  pointwise
  exact pay7_apply x n d

/-- The stored scales of the new key. -/
theorem pay10_apply (x : Vec Ideal S1x4x128 .f32) (n : Fin 4) :
    k0_pay10 (k0_pay3 x) (ix3 0 n 0) = Spec.qScale (row x n) := by
  unfold k0_pay10
  pointwise
  exact pay3_apply x n

/-- The stored scales of the new value. -/
theorem pay11_apply (x : Vec Ideal S1x4x128 .f32) (n : Fin 4) :
    k0_pay11 (k0_pay6 x) (ix3 0 n 0) = Spec.qScale (row x n) := by
  unfold k0_pay11
  pointwise
  exact pay6_apply x n

/-- The new values, dequantised. -/
theorem pay12_apply (x : Vec Ideal S1x4x128 .f32) (n : Fin 4) (d : Fin 128) :
    k0_pay12 (k0_pay6 x) (k0_pay7 x) (ix2 n d) = Spec.deq (Spec.qCode (row x n) d) (Spec.qScale (row x n)) := by
  unfold k0_pay12
  pointwise
  rw [pay6_apply, pay7_apply]
  rfl

/-- The new position's scores, of every head against every group's key. -/
theorem pay13_apply (x : Vec Ideal S1x4x128 .f32) (q : Vec Ideal S1x32x128 .bf16) (h : Fin 32) (n : Fin 4) :
    k0_pay13 (k0_pay3 x) (k0_pay4 x) q (ix2 h n)
      = Spec.score (fun d => q (ix3 0 h d)) (fun d => Spec.deq (Spec.qCode (row x n) d) (Spec.qScale (row x n))) := by
  unfold k0_pay13
  pointwise
  simp only [pay3_apply, pay4_apply]
  rfl

end Cert.KernelIdeal.Hand
-- ==== Proof.KernelDeq.lean ====
module

public import proofs.«01_k».proof.Proof.Gen.KernelIdeal.Skeleton
public import proofs.«01_k».proof.Proof.Spec
public import Idealize.ShloMosaic.Lib.BitcastFour

/-! One chunk of 512 cached positions, over the extended reals: its codes, read four rows to a word, transposed and split
    again, and multiplied by their scales, are the dequantised entries; row `4 d + n` of the result is entry `d` of
    group `n`. -/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- Reading four rows to a word, transposing the words and splitting them again takes row `4 j + n`, lane `d` to row
    `4 d + n`, lane `j`. -/
theorem codes_apply (x : IVec S2048x128 8) (d : Fin 128) (n : Fin 4) (j : Fin 512) :
    bitcast S512x512 8 (transpose S128x512 [1, 0] (bitcast S512x128 32 x bitcasts_S2048x128_w8_S512x128_w32)
        transposes_S512x128_p1_0_S128x512) bitcasts_S128x512_w32_S512x512_w8 (ix2 ⟨4 * d.val + n.val, by omega⟩ j)
      = x (ix2 ⟨4 * j.val + n.val, by omega⟩ d) := by
  apply BitVec.eq_of_getLsbD_eq
  intro i hi
  rw [bitcast_getLsbD _ _ _ i hi (by decide)]
  have hrow : S512x512.row (ix2 (⟨4 * d.val + n.val, by omega⟩ : Fin 512) j) = 4 * d.val + n.val := rfl
  have ep : (S512x512.row (ix2 (⟨4 * d.val + n.val, by omega⟩ : Fin 512) j) * 8 + i) / 32 = d.val := by
    rw [hrow]; omega
  have eq : (S512x512.row (ix2 (⟨4 * d.val + n.val, by omega⟩ : Fin 512) j) * 8 + i) % 32 = 8 * n.val + i := by
    rw [hrow]; omega
  rw [Shape.Bitcasts.srcIdx_congr _ _ ep _ (fun a ha => by
    match a with
    | ⟨0, _⟩ => exact d.isLt
    | ⟨1, _⟩ => exact absurd ha (by show ¬ 1 + 2 = 2; omega)), eq]
  have e2 : Shape.Bitcasts.srcIdx bitcasts_S128x512_w32_S512x512_w8
      (ix2 (⟨4 * d.val + n.val, by omega⟩ : Fin 512) j : S512x512.Idx) d.val (fun a ha => by
    match a with
    | ⟨0, _⟩ => exact d.isLt
    | ⟨1, _⟩ => exact absurd ha (by show ¬ 1 + 2 = 2; omega)) = ix2 d j := by
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [e2]
  pointwise
  refine (bitcast_8_32_getLsbD_ix2 x _ j d (8 * n.val + i) (by omega) ⟨4 * j.val + n.val, by omega⟩
    (by dsimp only; omega)).trans ?_
  have e3 : (8 * n.val + i) % 8 = i := by omega
  rw [e3]
  rfl

/-- The dequantised chunk, as the kernel lays it out. -/
def deqMat (v175 : Vec Ideal S1x2048x128 .i8) (v182 : Vec Ideal S1x4x512 .f32) : FVec Ideal S512x512 .bf16 :=
  have v176 : IVec S2048x128 8 := shapeCast S2048x128 v175 shapeCasts_S1x2048x128_S2048x128
  have v177 : IVec S512x128 32 := bitcast S512x128 32 v176 bitcasts_S2048x128_w8_S512x128_w32
  have v178 : IVec S128x512 32 := transpose S128x512 [1, 0] v177 transposes_S512x128_p1_0_S128x512
  have v179 : IVec S512x512 8 := bitcast S512x512 8 v178 bitcasts_S128x512_w32_S512x512_w8
  have v183 : FVec Ideal S4x512 .f32 := shapeCast S4x512 v182 shapeCasts_S1x4x512_S4x512
  have v184 : FVec Ideal S4x512 .bf16 := truncf .bf16 v183 bitsLt_bf16_f32
  have v185 : FVec Ideal S16x512 .bf16 := concatenate S16x512 0 [⟨S4x512, v184⟩, ⟨S4x512, v184⟩, ⟨S4x512, v184⟩, ⟨S4x512, v184⟩] concatenates_S4x512_S4x512_S4x512_S4x512_S16x512_d0
  have v186 : FVec Ideal S512x512 .bf16 := sitofp .bf16 v179
  have v187 : FVec Ideal S32x16x512 .bf16 := shapeCast S32x16x512 v186 shapeCasts_S512x512_S32x16x512
  have v188 : FVec Ideal S1x16x512 .bf16 := shapeCast S1x16x512 v185 shapeCasts_S16x512_S1x16x512
  have v189 : FVec Ideal S32x16x512 .bf16 := broadcastTo S32x16x512 v188 broadcasts_S1x16x512_S32x16x512
  have v190 : FVec Ideal S32x16x512 .bf16 := mulf v187 v189
  have v191 : FVec Ideal S512x512 .bf16 := shapeCast S512x512 v190 shapeCasts_S32x16x512_S512x512
  v191

/-- Row `4 d + n`, lane `j` of the dequantised chunk is entry `d` of row `4 j + n`, dequantised with scale `n` of lane `j`. -/
theorem deqMat_apply (v175 : Vec Ideal S1x2048x128 .i8) (v182 : Vec Ideal S1x4x512 .f32) (d : Fin 128) (n : Fin 4) (j : Fin 512) :
    deqMat v175 v182 (ix2 ⟨4 * d.val + n.val, by omega⟩ j)
      = Spec.deq (v175 (ix3 0 ⟨4 * j.val + n.val, by omega⟩ d)) (v182 (ix3 0 n j)) := by
  unfold deqMat
  pointwise
  have e1 : (FloatOps.sitofp FTy.bf16 (bitcast S512x512 8 (transpose S128x512 [1, 0]
      (bitcast S512x128 32 (shapeCast S2048x128 v175 shapeCasts_S1x2048x128_S2048x128)
        bitcasts_S2048x128_w8_S512x128_w32) transposes_S512x128_p1_0_S128x512) bitcasts_S128x512_w32_S512x512_w8
      (ix2 ⟨(4 * d.val + n.val) / 16 * 16 + (4 * d.val + n.val) % 16, by omega⟩ j)) : Ideal .bf16)
      = (((v175 (ix3 0 ⟨4 * j.val + n.val, by omega⟩ d)).toInt : ℝ) : EReal) := by
    have e : (⟨(4 * d.val + n.val) / 16 * 16 + (4 * d.val + n.val) % 16, by omega⟩ : Fin 512)
        = ⟨4 * d.val + n.val, by omega⟩ := Fin.ext (by dsimp only; omega)
    simp only [e]
    refine congrArg (fun z : BitVec 8 => ((z.toInt : ℝ) : EReal)) ((codes_apply _ d n j).trans ?_)
    pointwise
  refine congrArg₂ (fun a b : EReal => a * b) e1 ?_
  have key : ∀ (p : Fin 4), p.val = n.val → v182 (ix3 0 p j) = v182 (ix3 0 n j) := fun p hp => by
    rw [Fin.ext hp]
  split_ifs <;> exact key _ (by dsimp only; omega)

/-- A sum over 512 rows is a sum over 128 groups of four. -/
theorem sum_512 (f : Fin 512 → EReal) : ∑ e, f e = ∑ d : Fin 128, ∑ n : Fin 4, f ⟨4 * d.val + n.val, by omega⟩ := by
  rw [← Fintype.sum_prod_type']
  refine (Fintype.sum_equiv (finProdFinEquiv (m := 128) (n := 4)) _ _ fun x => ?_).symm
  refine congrArg f (Fin.ext ?_)
  simp only [finProdFinEquiv_apply_val]
  omega

/-- The scores of a chunk as a product with the dequantised chunk. -/
theorem pay18_apply (q : Vec Ideal S1x32x512 .bf16) (v175 : Vec Ideal S1x2048x128 .i8) (v182 : Vec Ideal S1x4x512 .f32)
    (h : Fin 32) (j : Fin 512) :
    k0_pay18 q v175 v182 (ix2 h j)
      = (∑ e : Fin 512, q (ix3 0 h e) * deqMat v175 v182 (ix2 e j)) * Ideal.ofBits .f32 0x3DB504F3#32 := by
  have e : k0_pay18 q v175 v182 = mulf (matmul dot_S32x512_S512x512_S32x512_1_0_0_1_n_n none
      (shapeCast S32x512 q shapeCasts_S1x32x512_S32x512) (deqMat v175 v182) (constant S32x512 .f32 0x00000000#32))
      (broadcast S32x512 (Scalar.ofBits .f32 0x3DB504F3#32)) := rfl
  rw [e]
  generalize deqMat v175 v182 = D
  pointwise

end Cert.KernelIdeal.Hand
-- ==== Proof.KernelSteps.lean ====
module

public import proofs.«01_k».proof.Proof.Body
public import proofs.«01_k».proof.Proof.KernelQuant
public import proofs.«01_k».proof.Proof.KernelDeq

/-! The single steps of the kernel's attention, over the extended reals: which group a head belongs to, the score of the
    new token, the maximum over all scores, one chunk of the second pass, and the final division. -/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- The rounded-down quotient by eight, as the integer operations compute it, is the group of the head. -/
theorem group_word : ∀ h : Fin 32,
    Scalar.select
      (IntOp.andi
        (IntOp.cmpi CmpIPredicate.ne
          (IntOp.subi (BitVec.setWidth 32 (IntOp.cmpi CmpIPredicate.sgt (BitVec.ofNat 32 h.val) 0#32))
            (BitVec.setWidth 32 (IntOp.cmpi CmpIPredicate.slt (BitVec.ofNat 32 h.val) 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector (BitVec.ofNat 32 h.val) 8#32) 0#32))
      (IntOp.subi (IntOp.divsi ArithUnit.vector (BitVec.ofNat 32 h.val) 8#32) 1#32)
      (IntOp.divsi ArithUnit.vector (BitVec.ofNat 32 h.val) 8#32) = BitVec.ofNat 32 (h.val / 8) := by
  decide +kernel

/-- A head's group is the given one exactly when their words agree. -/
theorem group_eq : ∀ (h : Fin 32) (n : Fin 4),
    IntOp.cmpi CmpIPredicate.eq (BitVec.ofNat 32 (h.val / 8)) (BitVec.ofNat 32 n.val)
      = if (⟨h.val / 8, by omega⟩ : Fin 4) = n then 1#1 else 0#1 := by
  decide +kernel

/-- A choice by the word of a decided proposition is the choice by the proposition. -/
theorem select_ite {α : Type} (p : Prop) [Decidable p] (x y : α) :
    Scalar.select (if p then 1#1 else 0#1) x y = if p then x else y := by
  split <;> rfl

/-- The new token's score of a head is the entry of its group. -/
theorem pay16_apply (sn : FVec Ideal S32x4 .f32) (h : Fin 32) :
    k0_pay16 (F := Ideal) sn kIota 8#32 k0_pay14 k0_pay15 kOne 0#32 (ix2 h 0) = sn (ix2 h ⟨h.val / 8, by omega⟩) := by
  unfold k0_pay16 kIota k0_pay14 k0_pay15 kOne
  pointwise
  simp only [group_word, group_eq, select_ite]
  rw [Finset.sum_ite_eq]
  simp only [Finset.mem_univ, if_true]

/-- The group of a head, as the last step of the kernel computes it. -/
theorem pay30_apply (d : Fin 128) (h : Fin 32) : k0_pay30 (ix2 d h) = BitVec.ofNat 32 (h.val / 8) := by
  unfold k0_pay30
  pointwise
  exact group_word h

variable (sn : FVec Ideal S32x4 .f32) (v98 : FVec Ideal S32x512 .f32)

/-- The maximum of a head: over the lanes of the running maximum, and the new token's score. -/
theorem pay21_apply (h : Fin 32) :
    k0_pay21 (F := Ideal) sn kIota 8#32 k0_pay14 k0_pay15 kOne 0#32 v98 (ix2 h 0)
      = (max (Finset.univ.sup fun j : Fin 512 => (v98 (ix2 h j) : EReal)) (sn (ix2 h ⟨h.val / 8, by omega⟩)) : EReal) := by
  unfold k0_pay21
  pointwise [pay16_apply]
  rw [Spec.ofBits_neg_inf]
  rfl

/-- One chunk of the weighted values. -/
theorem pay25_apply (sc : Vec Ideal S32x512 .f32) (v181 : Vec Ideal S1x2048x128 .i8) (v188 : Vec Ideal S1x4x512 .f32)
    (a : Vec Ideal S512x32 .f32) (e : Fin 512) (h : Fin 32) :
    k0_pay25 (F := Ideal) sn kIota 8#32 k0_pay14 k0_pay15 kOne 0#32 v98 sc v181 v188 a (ix2 e h) = a (ix2 e h)
      + ∑ j : Fin 512, deqMat v181 v188 (ix2 e j) * Ideal.exp (sc (ix2 h j) - k0_pay21 (F := Ideal) sn kIota 8#32 k0_pay14 k0_pay15 kOne 0#32 v98 (ix2 h 0)) := by
  have e1 : k0_pay25 (F := Ideal) sn kIota 8#32 k0_pay14 k0_pay15 kOne 0#32 v98 sc v181 v188 a
     = shapeCast S512x32 (addf a (matmul dot_S512x512_S32x512_S512x32_1_1_0_0_n_n none (deqMat v181 v188)
         (truncf .bf16 (k0_pay24 (F := Ideal) sn kIota 8#32 k0_pay14 k0_pay15 kOne 0#32 v98 sc) bitsLt_bf16_f32)
         (constant S512x32 .f32 0x00000000#32))) shapeCasts_S512x32_S512x32 := rfl
  rw [e1]
  unfold k0_pay24
  generalize deqMat v181 v188 = D
  generalize k0_pay21 (F := Ideal) sn kIota 8#32 k0_pay14 k0_pay15 kOne 0#32 v98 = M
  pointwise

/-- One chunk of the sum of exponentials. -/
theorem pay26_apply (sc a : Vec Ideal S32x512 .f32) (j : Fin 512) (h : Fin 32) :
    k0_pay26 (F := Ideal) sn kIota 8#32 k0_pay14 k0_pay15 kOne 0#32 v98 a sc (ix2 h j) = a (ix2 h j)
      + Ideal.exp (sc (ix2 h j) - k0_pay21 (F := Ideal) sn kIota 8#32 k0_pay14 k0_pay15 kOne 0#32 v98 (ix2 h 0)) := by
  unfold k0_pay26 k0_pay24
  generalize k0_pay21 (F := Ideal) sn kIota 8#32 k0_pay14 k0_pay15 kOne 0#32 v98 = M
  pointwise

/-- The weight of the new token. -/
theorem pay27_apply (h : Fin 32) :
    k0_pay27 (F := Ideal) sn kIota 8#32 k0_pay14 k0_pay15 kOne 0#32 v98 (ix2 h 0)
      = Ideal.exp (sn (ix2 h ⟨h.val / 8, by omega⟩) - k0_pay21 (F := Ideal) sn kIota 8#32 k0_pay14 k0_pay15 kOne 0#32 v98 (ix2 h 0)) := by
  unfold k0_pay27
  generalize k0_pay21 (F := Ideal) sn kIota 8#32 k0_pay14 k0_pay15 kOne 0#32 v98 = M
  pointwise [pay16_apply]

/-- The sum of all weights. -/
theorem pay29_apply (p : FVec Ideal S32x1 .f32) (l : FVec Ideal S32x512 .f32) (h : Fin 32) :
    k0_pay29 (F := Ideal) p (k0_pay28 l) (ix2 h 0) = (∑ j : Fin 512, (l (ix2 h j) : EReal)) + p (ix2 h 0) := by
  unfold k0_pay29 k0_pay28
  pointwise

/-- The last step: from the quarter of the head's group, the new token's part added, divided by the sum of weights. -/
theorem pay1_apply (vn : FVec Ideal S4x128 .bf16) (p l : FVec Ideal S32x1 .f32) (a : Vec Ideal S512x32 .f32) (d : Fin 128) (h : Fin 32) :
    k0_pay1 (F := Ideal) vn p l (k0_pay31 (quarter0 a) (quarter1 a) (quarter2 a)) k0_pay32 (quarter3 a) (ix3 0 h d)
      = Ideal.div (a (ix2 ⟨4 * d.val + h.val / 8, by omega⟩ h) + p (ix2 h 0) * vn (ix2 ⟨h.val / 8, by omega⟩ d)) (l (ix2 h 0)) := by
  have q0 : quarter0 a (ix2 d h) = a (ix2 ⟨4 * d.val + 0, by omega⟩ h) :=
    congrArg a (by funext c; match c with
      | ⟨0, _⟩ => exact Fin.ext (by show 0 + 4 * d.val = 4 * d.val + 0; omega)
      | ⟨1, _⟩ => exact Fin.ext (by show 0 + 1 * h.val = h.val; omega))
  have q1 : quarter1 a (ix2 d h) = a (ix2 ⟨4 * d.val + 1, by omega⟩ h) :=
    congrArg a (by funext c; match c with
      | ⟨0, _⟩ => exact Fin.ext (by show 1 + 4 * d.val = 4 * d.val + 1; omega)
      | ⟨1, _⟩ => exact Fin.ext (by show 0 + 1 * h.val = h.val; omega))
  have q2 : quarter2 a (ix2 d h) = a (ix2 ⟨4 * d.val + 2, by omega⟩ h) :=
    congrArg a (by funext c; match c with
      | ⟨0, _⟩ => exact Fin.ext (by show 2 + 4 * d.val = 4 * d.val + 2; omega)
      | ⟨1, _⟩ => exact Fin.ext (by show 0 + 1 * h.val = h.val; omega))
  have q3 : quarter3 a (ix2 d h) = a (ix2 ⟨4 * d.val + 3, by omega⟩ h) :=
    congrArg a (by funext c; match c with
      | ⟨0, _⟩ => exact Fin.ext (by show 3 + 4 * d.val = 4 * d.val + 3; omega)
      | ⟨1, _⟩ => exact Fin.ext (by show 0 + 1 * h.val = h.val; omega))
  generalize quarter0 a = a0 at q0 ⊢
  generalize quarter1 a = a1 at q1 ⊢
  generalize quarter2 a = a2 at q2 ⊢
  generalize quarter3 a = a3 at q3 ⊢
  unfold k0_pay1 k0_pay31 k0_pay32
  pointwise [pay30_apply]
  rw [q0, q1, q2, q3]
  refine congrArg (fun z : EReal => Ideal.div (z + p (ix2 h 0) * vn (ix2 ⟨h.val / 8, by omega⟩ d)) (l (ix2 h 0))) ?_
  have hs : h.val / 8 = 0 ∨ h.val / 8 = 1 ∨ h.val / 8 = 2 ∨ h.val / 8 = 3 := by omega
  rcases hs with e | e | e | e <;> simp only [e] <;> rfl

end Cert.KernelIdeal.Hand
-- ==== Proof.KernelAttn.lean ====
module

public import proofs.«01_k».proof.Proof.KernelSteps

/-! The attention output of one batch point of the kernel, over the extended reals: the running maximum, sum and weighted
    values of the sixteen chunks are the maximum and the sums over all cached positions, so the output is the softmax
    average of the cached and the new values. -/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! ## Sixteen chunks of 512 lanes are 8192 positions -/

/-- Position `j` of chunk `i`. -/
abbrev pos (i : ℕ) (j : Fin 512) : Fin 8192 := ⟨(512 * i + j.val) % 8192, Nat.mod_lt _ (by decide)⟩

/-- Every position is a lane of one of the sixteen chunks. -/
theorem pos_div_mod (t : Fin 8192) : pos (t.val / 512) ⟨t.val % 512, Nat.mod_lt _ (by decide)⟩ = t :=
  Fin.ext (by dsimp only; omega)

/-- A sum over lanes and chunks is the sum over positions. -/
theorem sum_chunks (f : Fin 8192 → EReal) :
    (∑ j : Fin 512, ∑ i ∈ Finset.range 16, f (pos i j)) = ∑ t, f t := by
  rw [Finset.sum_comm, Finset.sum_range, ← Fintype.sum_prod_type']
  refine Fintype.sum_equiv (finProdFinEquiv (m := 16) (n := 512)) _ _ fun x => ?_
  refine congrArg f (Fin.ext ?_)
  have h1 := x.1.isLt
  have h2 := x.2.isLt
  simp only [finProdFinEquiv_apply_val]
  omega

/-- A sum over chunks and lanes is the sum over positions. -/
theorem sum_chunks' (f : Fin 8192 → EReal) :
    (∑ i ∈ Finset.range 16, ∑ j : Fin 512, f (pos i j)) = ∑ t, f t := by
  rw [Finset.sum_comm, sum_chunks]

/-- A maximum over lanes and chunks is the maximum over positions. -/
theorem sup_chunks (f : Fin 8192 → EReal) :
    (Finset.univ.sup fun j : Fin 512 => (Finset.range 16).sup fun i => f (pos i j)) = Finset.univ.sup f := by
  apply le_antisymm
  · exact Finset.sup_le fun j _ => Finset.sup_le fun i _ => Finset.le_sup (Finset.mem_univ _)
  · refine Finset.sup_le fun t _ => ?_
    have h1 : f t = f (pos (t.val / 512) ⟨t.val % 512, Nat.mod_lt _ (by decide)⟩) := congrArg f (pos_div_mod t).symm
    rw [h1]
    refine le_trans ?_ (Finset.le_sup (f := fun j : Fin 512 => (Finset.range 16).sup fun i => f (pos i j))
      (Finset.mem_univ (⟨t.val % 512, Nat.mod_lt _ (by decide)⟩ : Fin 512)))
    exact Finset.le_sup (f := fun i => f (pos i ⟨t.val % 512, Nat.mod_lt _ (by decide)⟩))
      (Finset.mem_range.2 (by have := t.isLt; omega))

/-! ## The scores -/

section
variable (x0 : Vec Ideal S1x32x512 .bf16) (x4 x6 : Vec Ideal S1x32768x128 .i8) (x5 x7 : Vec Ideal S1x4x8192 .f32)
  (q : Fin 32 → Fin 128 → EReal)

/-- A chunk of the codes and of the scales, dequantised: entry `4 d + n` of lane `j` is entry `d` of group `n` at position
    `j` of the chunk. -/
theorem deqMat_chunk (i : ℕ) (d : Fin 128) (n : Fin 4) (j : Fin 512) :
    deqMat (chunkRows x4 i) (chunkCols x5 i) (ix2 ⟨4 * d.val + n.val, by omega⟩ j)
      = Spec.deq (x4 (ix3 0 ⟨4 * (pos i j).val + n.val, by have := (pos i j).isLt; omega⟩ d)) (x5 (ix3 0 n (pos i j))) := by
  rw [deqMat_apply]
  have e : (⟨(2048 * i + (4 * j.val + n.val)) % 32768, Nat.mod_lt _ (by decide)⟩ : Fin 32768)
      = ⟨4 * (pos i j).val + n.val, by have := (pos i j).isLt; omega⟩ := Fin.ext (by dsimp only; omega)
  exact congrArg (fun z : Fin 32768 => Spec.deq (x4 (ix3 0 z d)) (x5 (ix3 0 n (pos i j)))) e

/-- The score of head `h` at lane `j` of chunk `i`: the masked query meets the keys of its own group only. -/
theorem pay18_chunk (hq : ∀ (h : Fin 32) (d : Fin 128) (n : Fin 4), (x0 (ix3 0 h ⟨4 * d.val + n.val, by omega⟩) : EReal)
      = q h d * (if (⟨h.val / 8, by omega⟩ : Fin 4) = n then 1 else 0)) (i : ℕ) (h : Fin 32) (j : Fin 512) :
    k0_pay18 x0 (chunkRows x4 i) (chunkCols x5 i) (ix2 h j)
      = Spec.score (q h) (fun d => Spec.deq (x4 (ix3 0 ⟨4 * (pos i j).val + h.val / 8, by have := (pos i j).isLt; omega⟩ d))
          (x5 (ix3 0 ⟨h.val / 8, by omega⟩ (pos i j)))) := by
  rw [pay18_apply]
  unfold Spec.score
  refine congrArg (fun z : EReal => z * Ideal.ofBits .f32 0x3DB504F3#32) ?_
  rw [sum_512]
  refine Finset.sum_congr rfl fun d _ => ?_
  simp only [deqMat_chunk, hq, mul_ite, mul_one, mul_zero, ite_mul, zero_mul]
  rw [Finset.sum_ite_eq]
  simp only [Finset.mem_univ, if_true]

variable (s : Fin 32 → Fin 8192 → EReal)
  (hs : ∀ (i : ℕ) (h : Fin 32) (j : Fin 512), k0_pay18 x0 (chunkRows x4 i) (chunkCols x5 i) (ix2 h j) = s h (pos i j))
include hs

/-- All scores. -/
theorem scAll_apply (h : Fin 32) (t : Fin 8192) : scAll x0 x4 x5 (ix2 h t) = s h t := by
  have e : scAll x0 x4 x5 (ix2 h t) = k0_pay18 x0 (chunkRows x4 (t.val / 512)) (chunkCols x5 (t.val / 512))
      (ix2 h ⟨t.val % 512, Nat.mod_lt _ (by decide)⟩) := by
    unfold scAll k0_pay19
    show shapeCast S32x512 (k0_pay18 x0 (chunkRows x4 (t.val / 512)) (chunkCols x5 (t.val / 512))) shapeCasts_S32x512_S32x512
      (ix2 h ⟨t.val % 512, Nat.mod_lt _ (by decide)⟩) = _
    generalize k0_pay18 x0 (chunkRows x4 (t.val / 512)) (chunkCols x5 (t.val / 512)) = Y
    pointwise
  rw [e, hs, pos_div_mod]

/-- One chunk of all scores. -/
theorem chunkSc_apply (i : ℕ) (h : Fin 32) (j : Fin 512) : chunkSc (scAll x0 x4 x5) i (ix2 h j) = s h (pos i j) :=
  scAll_apply x0 x4 x5 s hs h (pos i j)

/-- The running maximum after `k` chunks. -/
theorem accM_apply (k : ℕ) (h : Fin 32) (j : Fin 512) :
    accM x0 x4 x5 k (ix2 h j) = (Finset.range k).sup fun i => s h (pos i j) := by
  induction k with
  | zero =>
    refine Eq.trans ?_ Spec.ofBits_neg_inf
    show k0_pay17 (F := Ideal) (ix2 h j) = _
    unfold k0_pay17
    pointwise
  | succ k ih =>
    have e : accM x0 x4 x5 (k + 1) (ix2 h j)
        = (max (accM x0 x4 x5 k (ix2 h j)) (k0_pay18 x0 (chunkRows x4 k) (chunkCols x5 k) (ix2 h j)) : EReal) := rfl
    rw [e, ih, hs, Finset.range_add_one, Finset.sup_insert]
    exact max_comm _ _

/-- The maximum of a head over all cached positions and the new one. -/
theorem top_apply (sn : FVec Ideal S32x4 .f32) (h : Fin 32) :
    k0_pay21 (F := Ideal) sn kIota 8#32 k0_pay14 k0_pay15 kOne 0#32 (mRun x0 x4 x5) (ix2 h 0)
      = Spec.top (s h) (sn (ix2 h ⟨h.val / 8, by omega⟩)) := by
  rw [pay21_apply]
  unfold mRun
  simp only [accM_apply x0 x4 x5 s hs]
  rw [sup_chunks]
  rfl

/-- The running sum of exponentials after `k` chunks. -/
theorem accL_apply (sn : FVec Ideal S32x4 .f32) (k : ℕ) (h : Fin 32) (j : Fin 512) :
    accL sn kIota 8#32 k0_pay14 k0_pay15 kOne 0#32 (mRun x0 x4 x5) (scAll x0 x4 x5) k (ix2 h j)
      = ∑ i ∈ Finset.range k, Ideal.exp (s h (pos i j) - Spec.top (s h) (sn (ix2 h ⟨h.val / 8, by omega⟩))) := by
  induction k with
  | zero =>
    show k0_pay23 (F := Ideal) (ix2 h j) = _
    unfold k0_pay23
    pointwise
    rfl
  | succ k ih =>
    have e : accL sn kIota 8#32 k0_pay14 k0_pay15 kOne 0#32 (mRun x0 x4 x5) (scAll x0 x4 x5) (k + 1)
        = k0_pay26 (F := Ideal) sn kIota 8#32 k0_pay14 k0_pay15 kOne 0#32 (mRun x0 x4 x5)
          (accL sn kIota 8#32 k0_pay14 k0_pay15 kOne 0#32 (mRun x0 x4 x5) (scAll x0 x4 x5) k) (chunkSc (scAll x0 x4 x5) k) := rfl
    rw [e, pay26_apply, ih, top_apply x0 x4 x5 s hs, chunkSc_apply x0 x4 x5 s hs, Finset.sum_range_succ]

/-- The running sum of weighted values after `k` chunks. -/
theorem accA_apply (sn : FVec Ideal S32x4 .f32) (k : ℕ) (h : Fin 32) (d : Fin 128) (n : Fin 4) :
    accA sn kIota 8#32 k0_pay14 k0_pay15 kOne 0#32 (mRun x0 x4 x5) (scAll x0 x4 x5) x6 x7 (k0_pay22 (F := Ideal)) k (ix2 ⟨4 * d.val + n.val, by omega⟩ h)
      = ∑ i ∈ Finset.range k, ∑ j : Fin 512,
          Spec.deq (x6 (ix3 0 ⟨4 * (pos i j).val + n.val, by have := (pos i j).isLt; omega⟩ d)) (x7 (ix3 0 n (pos i j)))
            * Ideal.exp (s h (pos i j) - Spec.top (s h) (sn (ix2 h ⟨h.val / 8, by omega⟩))) := by
  induction k with
  | zero =>
    show k0_pay22 (F := Ideal) (ix2 _ h) = _
    unfold k0_pay22
    pointwise
    rfl
  | succ k ih =>
    have e : accA sn kIota 8#32 k0_pay14 k0_pay15 kOne 0#32 (mRun x0 x4 x5) (scAll x0 x4 x5) x6 x7 (k0_pay22 (F := Ideal)) (k + 1)
        = k0_pay25 (F := Ideal) sn kIota 8#32 k0_pay14 k0_pay15 kOne 0#32 (mRun x0 x4 x5) (chunkSc (scAll x0 x4 x5) k)
          (chunkRows x6 k) (chunkCols x7 k)
          (accA sn kIota 8#32 k0_pay14 k0_pay15 kOne 0#32 (mRun x0 x4 x5) (scAll x0 x4 x5) x6 x7 (k0_pay22 (F := Ideal)) k) := rfl
    rw [e, pay25_apply, ih, Finset.sum_range_succ]
    simp only [top_apply x0 x4 x5 s hs, chunkSc_apply x0 x4 x5 s hs, deqMat_chunk]

/-- The attention output of head `h`, coordinate `d`, from the scores. -/
theorem outY_of_scores (x1 : Vec Ideal S1x32x128 .bf16) (x2 x3 : Vec Ideal S1x4x128 .f32) (h : Fin 32) (d : Fin 128) :
    outY x0 x1 x2 x3 x4 x5 x6 x7 (ix3 0 h d)
      = Spec.attn (s h) (Spec.score (fun d => x1 (ix3 0 h d))
            (fun d => Spec.deq (Spec.qCode (row x2 ⟨h.val / 8, by omega⟩) d) (Spec.qScale (row x2 ⟨h.val / 8, by omega⟩))))
          (fun t => Spec.deq (x6 (ix3 0 ⟨4 * t.val + h.val / 8, by omega⟩ d)) (x7 (ix3 0 ⟨h.val / 8, by omega⟩ t)))
          (Spec.deq (Spec.qCode (row x3 ⟨h.val / 8, by omega⟩) d) (Spec.qScale (row x3 ⟨h.val / 8, by omega⟩))) := by
  unfold outY
  rw [pay1_apply, pay29_apply, pay12_apply]
  unfold pNew lRun aRun
  rw [pay27_apply, top_apply x0 x4 x5 s hs]
  simp only [accL_apply x0 x4 x5 s hs]
  rw [accA_apply x0 x4 x6 x5 x7 s hs _ 16 h d ⟨h.val / 8, by omega⟩, pay13_apply]
  rw [sum_chunks (fun t => Ideal.exp (s h t - _)),
    sum_chunks' (fun t => Spec.deq (x6 (ix3 0 ⟨4 * t.val + h.val / 8, by omega⟩ d)) (x7 (ix3 0 ⟨h.val / 8, by omega⟩ t)) * Ideal.exp (s h t - _))]
  unfold Spec.attn
  rw [mul_comm (Ideal.exp _) (Spec.deq _ _)]

end

/-- The attention output of head `h`, coordinate `d`: the softmax average over the cached positions and the new one. -/
theorem outY_apply (x0 : Vec Ideal S1x32x512 .bf16) (x1 : Vec Ideal S1x32x128 .bf16) (x2 x3 : Vec Ideal S1x4x128 .f32)
    (x4 x6 : Vec Ideal S1x32768x128 .i8) (x5 x7 : Vec Ideal S1x4x8192 .f32) (q : Fin 32 → Fin 128 → EReal)
    (hq : ∀ (h : Fin 32) (d : Fin 128) (n : Fin 4), (x0 (ix3 0 h ⟨4 * d.val + n.val, by omega⟩) : EReal)
      = q h d * (if (⟨h.val / 8, by omega⟩ : Fin 4) = n then 1 else 0)) (h : Fin 32) (d : Fin 128) :
    outY x0 x1 x2 x3 x4 x5 x6 x7 (ix3 0 h d)
      = Spec.attn
          (fun t => Spec.score (q h) (fun d => Spec.deq (x4 (ix3 0 ⟨4 * t.val + h.val / 8, by omega⟩ d)) (x5 (ix3 0 ⟨h.val / 8, by omega⟩ t))))
          (Spec.score (fun d => x1 (ix3 0 h d))
            (fun d => Spec.deq (Spec.qCode (row x2 ⟨h.val / 8, by omega⟩) d) (Spec.qScale (row x2 ⟨h.val / 8, by omega⟩))))
          (fun t => Spec.deq (x6 (ix3 0 ⟨4 * t.val + h.val / 8, by omega⟩ d)) (x7 (ix3 0 ⟨h.val / 8, by omega⟩ t)))
          (Spec.deq (Spec.qCode (row x3 ⟨h.val / 8, by omega⟩) d) (Spec.qScale (row x3 ⟨h.val / 8, by omega⟩))) :=
  outY_of_scores x0 x4 x6 x5 x7
    (fun h t => Spec.score (q h) (fun d => Spec.deq (x4 (ix3 0 ⟨4 * t.val + h.val / 8, by omega⟩ d)) (x5 (ix3 0 ⟨h.val / 8, by omega⟩ t))))
    (fun i h j => pay18_chunk x0 x4 x5 q hq i h j) x1 x2 x3 h d

end Cert.KernelIdeal.Hand
-- ==== Proof.RefQuant.lean ====
module

public import proofs.«01_k».proof.Proof.Gen.ReferenceIdeal.Read
public import proofs.«01_k».proof.Proof.Spec

/-! The reference's quantiser, over the extended reals. -/

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Read

/-- The row of batch element `b`, group `n`. -/
def row (x : Vec Ideal S16x1x4x128 .f32) (b : Fin 16) (n : Fin 4) : Fin 128 → EReal := fun d => x (ix4 b 0 n d)

/-- The reference's scales of the new key. -/
theorem v6_apply (x : Vec Ideal S16x1x4x128 .f32) (b : Fin 16) (n : Fin 4) :
    val_main_v6 x (ix3 b 0 n) = Spec.qScale (row x b n) := by
  unfold val_main_v6 val_main_v3 val_main_v5 val_main_call0_v1 val_main_v1 val_main_v2 val_main_v4 val_main_call0_v0
    val_main_v0 val_main_cst val_main_cst_0 val_main_cst_1 val_main_cst_2
  pointwise
  have e1 : id (constant (F := Ideal) S_ FTy.f32 1065353216#32) ix0 = (1 : EReal) := Idealize.ShloMosaic.Ideal.ofBits_one_f32
  rw [e1]
  rfl

/-- The reference's scales of the new value. -/
theorem v20_apply (x : Vec Ideal S16x1x4x128 .f32) (b : Fin 16) (n : Fin 4) :
    val_main_v20 x (ix3 b 0 n) = Spec.qScale (row x b n) := by
  have e : (val_main_v20 x : Vec Ideal S16x1x4 .f32) = val_main_v6 x := rfl
  rw [e, v6_apply]

/-- The reference's codes of the new key. -/
theorem v13_apply (x : Vec Ideal S16x1x4x128 .f32) (b : Fin 16) (n : Fin 4) (d : Fin 128) :
    val_main_v13 x (ix4 b 0 n d) = Spec.qCode (row x b n) d := by
  unfold val_main_v13 val_main_v12 val_main_v11 val_main_call2_v2 val_main_call2_v4 val_main_call2_v1 val_main_v10
    val_main_v9 val_main_v8 val_main_v7 val_main_call2_v3 val_main_call2_v0 val_main_cst_3 val_main_cst_4
  pointwise
  rw [v6_apply]
  exact Spec.fptosi_32_8 _

/-- The reference's codes of the new value. -/
theorem v27_apply (x : Vec Ideal S16x1x4x128 .f32) (b : Fin 16) (n : Fin 4) (d : Fin 128) :
    val_main_v27 x (ix4 b 0 n d) = Spec.qCode (row x b n) d := by
  have e : (val_main_v27 x : Vec Ideal S16x1x4x128 .i8) = val_main_v13 x := rfl
  rw [e, v13_apply]

end Cert.ReferenceIdeal.Hand
-- ==== Proof.RefAttn.lean ====
module

public import proofs.«01_k».proof.Proof.RefQuant

/-! The attention output of the reference, over the extended reals: the softmax average over the cached positions and the
    new one. -/

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Read

variable (x0 : (⟨S16x1x4096, .f32⟩ : BufTy).Contents (Elt Ideal)) (x1 x2 : (⟨S16x1x4x128, .f32⟩ : BufTy).Contents (Elt Ideal))
  (x3 x5 : (⟨S16x8192x4x128, .i8⟩ : BufTy).Contents (Elt Ideal)) (x4 x6 : (⟨S16x8192x4, .f32⟩ : BufTy).Contents (Elt Ideal))

/-- Widening a code to 32 bits does not change its integer. -/
theorem toInt_signExtend_8_32 (k : BitVec 8) : (k.signExtend 32).toInt = k.toInt := by
  rw [BitVec.toInt_signExtend_of_le (by decide)]

/-- A cached key dequantised. -/
theorem v35_apply (b : Fin 16) (t : Fin 8192) (n : Fin 4) (d : Fin 128) :
    val_main_v35 (F := Ideal) x3 x4 (ix4 b t n d) = Spec.deq (x3 (ix4 b t n d)) (x4 (ix3 b t n)) := by
  unfold val_main_v35 val_main_v31 val_main_v30 val_main_v29 val_main_v34 val_main_v33 val_main_v32
  pointwise
  exact congrArg (fun z : ℤ => ((z : ℝ) : EReal) * (x4 (ix3 b t n) : EReal)) (toInt_signExtend_8_32 _)

/-- The new key quantised and dequantised. -/
theorem v42_apply (b : Fin 16) (n : Fin 4) (d : Fin 128) :
    val_main_v42 (F := Ideal) x1 (ix4 b 0 n d) = Spec.deq (Spec.qCode (row x1 b n) d) (Spec.qScale (row x1 b n)) := by
  unfold val_main_v42 val_main_v38 val_main_v37 val_main_v36 val_main_v41 val_main_v40 val_main_v39
  pointwise [v6_apply, v13_apply]
  exact congrArg (fun z : ℤ => ((z : ℝ) : EReal) * Spec.qScale (row x1 b n)) (toInt_signExtend_8_32 _)

/-- A cached value dequantised. -/
theorem v51_apply (b : Fin 16) (t : Fin 8192) (n : Fin 4) (d : Fin 128) :
    val_main_v51 (F := Ideal) x5 x6 (ix4 b t n d) = Spec.deq (x5 (ix4 b t n d)) (x6 (ix3 b t n)) := by
  unfold val_main_v51 val_main_v47 val_main_v46 val_main_v45 val_main_v50 val_main_v49 val_main_v48
  pointwise
  exact congrArg (fun z : ℤ => ((z : ℝ) : EReal) * (x6 (ix3 b t n) : EReal)) (toInt_signExtend_8_32 _)

/-- The new value quantised and dequantised. -/
theorem v58_apply (b : Fin 16) (n : Fin 4) (d : Fin 128) :
    val_main_v58 (F := Ideal) x2 (ix4 b 0 n d) = Spec.deq (Spec.qCode (row x2 b n) d) (Spec.qScale (row x2 b n)) := by
  unfold val_main_v58 val_main_v54 val_main_v53 val_main_v52 val_main_v57 val_main_v56 val_main_v55
  pointwise [v20_apply, v27_apply]
  exact congrArg (fun z : ℤ => ((z : ℝ) : EReal) * Spec.qScale (row x2 b n)) (toInt_signExtend_8_32 _)

/-- The keys: position `t` of the cache. -/
theorem v44_castSucc (b : Fin 16) (t : Fin 8192) (n : Fin 4) (d : Fin 128) :
    val_main_v44 (F := Ideal) x1 x3 x4 (ix4 b t.castSucc n d) = val_main_v35 (F := Ideal) x3 x4 (ix4 b t n d) := by
  unfold val_main_v44 val_main_v43
  generalize val_main_v35 (F := Ideal) x3 x4 = K
  generalize val_main_v42 (F := Ideal) x1 = K'
  pointwise
  exact dif_pos t.isLt

/-- The keys: the last position is the new one. -/
theorem v44_last (b : Fin 16) (n : Fin 4) (d : Fin 128) :
    val_main_v44 (F := Ideal) x1 x3 x4 (ix4 b (Fin.last 8192) n d) = val_main_v42 (F := Ideal) x1 (ix4 b 0 n d) := by
  have e : ∀ t : Fin 8193, val_main_v44 (F := Ideal) x1 x3 x4 (ix4 b t n d)
      = if h : t.val < 8192 then val_main_v35 (F := Ideal) x3 x4 (ix4 b ⟨t.val, h⟩ n d)
        else val_main_v42 (F := Ideal) x1 (ix4 b ⟨t.val - 8192, by omega⟩ n d) := fun t => by
    unfold val_main_v44 val_main_v43
    generalize val_main_v35 (F := Ideal) x3 x4 = K
    generalize val_main_v42 (F := Ideal) x1 = K'
    pointwise
  exact (e _).trans (dif_neg (lt_irrefl _))

/-- The values: position `t` of the cache. -/
theorem v60_castSucc (b : Fin 16) (t : Fin 8192) (n : Fin 4) (d : Fin 128) :
    val_main_v60 (F := Ideal) x2 x5 x6 (ix4 b t.castSucc n d) = val_main_v51 (F := Ideal) x5 x6 (ix4 b t n d) := by
  unfold val_main_v60 val_main_v59
  generalize val_main_v51 (F := Ideal) x5 x6 = K
  generalize val_main_v58 (F := Ideal) x2 = K'
  pointwise
  exact dif_pos t.isLt

/-- The values: the last position is the new one. -/
theorem v60_last (b : Fin 16) (n : Fin 4) (d : Fin 128) :
    val_main_v60 (F := Ideal) x2 x5 x6 (ix4 b (Fin.last 8192) n d) = val_main_v58 (F := Ideal) x2 (ix4 b 0 n d) := by
  have e : ∀ t : Fin 8193, val_main_v60 (F := Ideal) x2 x5 x6 (ix4 b t n d)
      = if h : t.val < 8192 then val_main_v51 (F := Ideal) x5 x6 (ix4 b ⟨t.val, h⟩ n d)
        else val_main_v58 (F := Ideal) x2 (ix4 b ⟨t.val - 8192, by omega⟩ n d) := fun t => by
    unfold val_main_v60 val_main_v59
    generalize val_main_v51 (F := Ideal) x5 x6 = K
    generalize val_main_v58 (F := Ideal) x2 = K'
    pointwise
  exact (e _).trans (dif_neg (lt_irrefl _))

/-- The scores of the query head `8 n + g`. -/
theorem v64_apply (b : Fin 16) (n : Fin 4) (g : Fin 8) (t : Fin 8193) (h : Fin 32) (hh : h.val = 8 * n.val + g.val) :
    val_main_v64 (F := Ideal) x0 x1 x3 x4 (ix5 b 0 n g t)
      = Spec.score (fun d => x0 (ix3 b 0 ⟨128 * h.val + d.val, by omega⟩))
          (fun d => val_main_v44 (F := Ideal) x1 x3 x4 (ix4 b t n d)) := by
  unfold val_main_v64 val_main_v62 val_main_v63 val_main_cst_11 val_main_v61 val_main_v28
  generalize val_main_v44 (F := Ideal) x1 x3 x4 = K
  pointwise
  unfold Spec.score
  refine congrArg (fun z : EReal => z * Ideal.ofBits .f32 0x3DB504F3#32) (Finset.sum_congr rfl fun d _ => ?_)
  refine (mul_comm _ _).trans ?_
  have e : (⟨n.val * 1024 + g.val * 128 + d.val, by omega⟩ : Fin 4096) = ⟨128 * h.val + d.val, by omega⟩ :=
    Fin.ext (by dsimp only; omega)
  exact congrArg (fun z : Fin 4096 => (x0 (ix3 b 0 z) : EReal) * K (ix4 b t n d)) e

/-- The attention output from the scores and the values. -/
theorem v76_of (b : Fin 16) (h : Fin 32) (d : Fin 128) (s : Fin 8193 → EReal) (v : Fin 8193 → EReal)
    (hs : ∀ t, val_main_v64 (F := Ideal) x0 x1 x3 x4 (ix5 b 0 ⟨h.val / 8, by omega⟩ ⟨h.val % 8, by omega⟩ t) = s t)
    (hv : ∀ t, val_main_v60 (F := Ideal) x2 x5 x6 (ix4 b t ⟨h.val / 8, by omega⟩ d) = v t) :
    val_main_v76 (F := Ideal) x0 x1 x2 x3 x4 x5 x6 (ix3 b 0 ⟨128 * h.val + d.val, by omega⟩)
      = Ideal.div (∑ t, v t * Ideal.exp (s t - Finset.univ.sup s)) (∑ t, Ideal.exp (s t - Finset.univ.sup s)) := by
  unfold val_main_v76 val_main_v75 val_main_v72 val_main_v71 val_main_v74 val_main_v73 val_main_v70 val_main_v69
    val_main_v68 val_main_v67 val_main_v66 val_main_v65 val_main_cst_12 val_main_cst_13
  generalize val_main_v64 (F := Ideal) x0 x1 x3 x4 = S at hs ⊢
  generalize val_main_v60 (F := Ideal) x2 x5 x6 = V at hv ⊢
  pointwise
  have e1 : (⟨(128 * h.val + d.val) / 1024, by omega⟩ : Fin 4) = ⟨h.val / 8, by omega⟩ := Fin.ext (by dsimp only; omega)
  have e2 : (⟨(128 * h.val + d.val) / 128 % 8, by omega⟩ : Fin 8) = ⟨h.val % 8, by omega⟩ := Fin.ext (by dsimp only; omega)
  simp only [e1, e2, hs, hv, Spec.ofBits_neg_inf, Spec.fold_max_eq_sup]

/-- The attention output of head `h`, coordinate `d`. -/
theorem v76_apply (b : Fin 16) (h : Fin 32) (d : Fin 128) :
    val_main_v76 (F := Ideal) x0 x1 x2 x3 x4 x5 x6 (ix3 b 0 ⟨128 * h.val + d.val, by omega⟩)
      = Spec.attn
          (fun t => Spec.score (fun d => x0 (ix3 b 0 ⟨128 * h.val + d.val, by omega⟩))
            (fun d => Spec.deq (x3 (ix4 b t ⟨h.val / 8, by omega⟩ d)) (x4 (ix3 b t ⟨h.val / 8, by omega⟩))))
          (Spec.score (fun d => x0 (ix3 b 0 ⟨128 * h.val + d.val, by omega⟩))
            (fun d => Spec.deq (Spec.qCode (row x1 b ⟨h.val / 8, by omega⟩) d) (Spec.qScale (row x1 b ⟨h.val / 8, by omega⟩))))
          (fun t => Spec.deq (x5 (ix4 b t ⟨h.val / 8, by omega⟩ d)) (x6 (ix3 b t ⟨h.val / 8, by omega⟩)))
          (Spec.deq (Spec.qCode (row x2 b ⟨h.val / 8, by omega⟩) d) (Spec.qScale (row x2 b ⟨h.val / 8, by omega⟩))) := by
  refine (v76_of x0 x1 x2 x3 x5 x4 x6 b h d _ _
    (fun t => v64_apply x0 x1 x3 x4 b ⟨h.val / 8, by omega⟩ ⟨h.val % 8, by omega⟩ t h (by dsimp only; omega)) (fun t => rfl)).trans ?_
  rw [Spec.sup_castSucc, Fin.sum_univ_castSucc (n := 8192), Fin.sum_univ_castSucc (n := 8192)]
  simp only [v44_castSucc, v44_last, v60_castSucc, v60_last, v35_apply, v42_apply, v51_apply, v58_apply]
  rfl

end Cert.ReferenceIdeal.Hand
-- ==== Proof.Results.lean ====
module

public import proofs.«01_k».proof.Proof.Entry
public import proofs.«01_k».proof.Proof.Exit
public import proofs.«01_k».proof.Proof.KernelAttn
public import proofs.«01_k».proof.Proof.RefAttn

/-! Each of the five results of the kernel is the reference's result of the same arguments, over the extended reals. -/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (m : (ℓ : Loc nD τ sig) → Buf (Elt Ideal) ℓ)

/-- The contents of a buffer when the program has returned. -/
abbrev finalOf (c : Dev nD) (b : Ref sig .tc) : Buf (Elt Ideal) ((c.tc : Thread nD τ).loc b) :=
  Pipeline.afterTail₀ cfgs (dats m) 0 (V0 m) [hostOps1] c b

/-! ## The blocks of a grid point, as the arguments -/

/-- The queries against the identity. -/
theorem blk0 (c : Dev nD) (b : Fin 16) (h : Fin 32) (d : Fin 128) (n : Fin 4) :
    (iblk m c 0 (pt b) (ix3 0 h ⟨4 * d.val + n.val, by omega⟩) : EReal)
      = arg0 m c (ix3 b 0 ⟨128 * h.val + d.val, by omega⟩) * (if (⟨h.val / 8, by omega⟩ : Fin 4) = n then 1 else 0) :=
  (iblk0 m c b _).trans (V_v13 m c b h d n)

/-- The queries. -/
theorem blk1 (c : Dev nD) (b : Fin 16) (h : Fin 32) (d : Fin 128) :
    iblk m c 1 (pt b) (ix3 0 h d) = arg0 m c (ix3 b 0 ⟨128 * h.val + d.val, by omega⟩) :=
  (iblk1 m c b _).trans (V_v14 m c b h d)

/-- The rows of the new key. -/
theorem blk2 (c : Dev nD) (b : Fin 16) (n : Fin 4) :
    row (iblk m c 2 (pt b)) n = Cert.ReferenceIdeal.Hand.row (arg1 m c) b n :=
  funext fun d => (iblk2 m c b _).trans (V_v19 m c b n d)

/-- The rows of the new value. -/
theorem blk3 (c : Dev nD) (b : Fin 16) (n : Fin 4) :
    row (iblk m c 3 (pt b)) n = Cert.ReferenceIdeal.Hand.row (arg2 m c) b n :=
  funext fun d => (iblk3 m c b _).trans (V_v20 m c b n d)

/-- The codes of the cached keys. -/
theorem blk4 (c : Dev nD) (b : Fin 16) (t : Fin 8192) (n : Fin 4) (d : Fin 128) :
    iblk m c 4 (pt b) (ix3 0 ⟨4 * t.val + n.val, by omega⟩ d) = arg3 m c (ix4 b t n d) :=
  (iblk4 m c b _).trans (V_v15 m c b t n d)

/-- The scales of the cached keys. -/
theorem blk5 (c : Dev nD) (b : Fin 16) (t : Fin 8192) (n : Fin 4) :
    iblk m c 5 (pt b) (ix3 0 n t) = arg4 m c (ix3 b t n) :=
  (iblk5 m c b _).trans (V_v17 m c b n t)

/-- The codes of the cached values. -/
theorem blk6 (c : Dev nD) (b : Fin 16) (t : Fin 8192) (n : Fin 4) (d : Fin 128) :
    iblk m c 6 (pt b) (ix3 0 ⟨4 * t.val + n.val, by omega⟩ d) = arg5 m c (ix4 b t n d) :=
  (iblk6 m c b _).trans (V_v16 m c b t n d)

/-- The scales of the cached values. -/
theorem blk7 (c : Dev nD) (b : Fin 16) (t : Fin 8192) (n : Fin 4) :
    iblk m c 7 (pt b) (ix3 0 n t) = arg6 m c (ix3 b t n) :=
  (iblk7 m c b _).trans (V_v18 m c b n t)

/-! ## The results -/

/-- Scores agree where queries and keys do. -/
theorem score_congr {q q' k k' : Fin 128 → EReal} (hq : ∀ d, q d = q' d) (hk : ∀ d, k d = k' d) :
    Spec.score q k = Spec.score q' k' := by rw [funext hq, funext hk]

/-- Averages agree where scores and values do. -/
theorem attn_congr {s s₁ : Fin 8192 → EReal} {s' s₁' : EReal} {v v₁ : Fin 8192 → EReal} {v' v₁' : EReal}
    (hs : ∀ t, s t = s₁ t) (hs' : s' = s₁') (hv : ∀ t, v t = v₁ t) (hv' : v' = v₁') :
    Spec.attn s s' v v' = Spec.attn s₁ s₁' v₁ v₁' := by rw [funext hs, hs', funext hv, hv']

/-- The attention output. -/
theorem result_y (c : Dev nD) :
    finalOf m c main_v22 = Cert.ReferenceIdeal.Read.val_main_v76 (F := Ideal) (arg0 m c) (arg1 m c) (arg2 m c) (arg3 m c)
      (arg4 m c) (arg5 m c) (arg6 m c) := by
  funext i
  obtain ⟨b, h, d, rfl⟩ : ∃ (b : Fin 16) (h : Fin 32) (d : Fin 128), i = ix3 b 0 ⟨128 * h.val + d.val, by omega⟩ := by
    have h1 : (i 1).val < 1 := (i 1).isLt
    have h2 : (i 2).val < 4096 := (i 2).isLt
    refine ⟨⟨(i 0).val, (i 0).isLt⟩, ⟨(i 2).val / 128, by omega⟩, ⟨(i 2).val % 128, by omega⟩, funext fun a => ?_⟩
    match a with
    | ⟨0, _⟩ => rfl
    | ⟨1, _⟩ => exact Fin.ext (by show (i 1).val = 0; omega)
    | ⟨2, _⟩ => exact Fin.ext (by show (i 2).val = 128 * ((i 2).val / 128) + (i 2).val % 128; omega)
  refine (W_v22 m c b h d).trans ?_
  refine (outY_apply _ _ _ _ _ _ _ _ (fun h d => arg0 m c (ix3 b 0 ⟨128 * h.val + d.val, by omega⟩)) (blk0 m c b) h d).trans ?_
  refine Eq.trans ?_ (Cert.ReferenceIdeal.Hand.v76_apply (arg0 m c) (arg1 m c) (arg2 m c) (arg3 m c) (arg5 m c)
    (arg4 m c) (arg6 m c) b h d).symm
  refine attn_congr (fun t => score_congr (fun _ => rfl) fun d => ?_) (score_congr (fun d => blk1 m c b h d) fun d => ?_)
    (fun t => ?_) ?_
  · exact congrArg₂ Spec.deq (blk4 m c b t ⟨h.val / 8, by omega⟩ d) (blk5 m c b t ⟨h.val / 8, by omega⟩)
  · rw [blk2]
  · exact congrArg₂ Spec.deq (blk6 m c b t ⟨h.val / 8, by omega⟩ d) (blk7 m c b t ⟨h.val / 8, by omega⟩)
  · rw [blk3]

/-- Every index of a `16 × 1 × 4 × 128` array, by its coordinates. -/
theorem idx4_cases (i : S16x1x4x128.Idx) : ∃ (b : Fin 16) (n : Fin 4) (d : Fin 128), i = ix4 b 0 n d := by
  have h1 : (i 1).val < 1 := (i 1).isLt
  refine ⟨⟨(i 0).val, (i 0).isLt⟩, ⟨(i 2).val, (i 2).isLt⟩, ⟨(i 3).val, (i 3).isLt⟩, funext fun a => ?_⟩
  match a with
  | ⟨0, _⟩ => rfl
  | ⟨1, _⟩ => exact Fin.ext (by show (i 1).val = 0; omega)
  | ⟨2, _⟩ => rfl
  | ⟨3, _⟩ => rfl

/-- Every index of a `16 × 1 × 4` array, by its coordinates. -/
theorem idx3_cases (i : S16x1x4.Idx) : ∃ (b : Fin 16) (n : Fin 4), i = ix3 b 0 n := by
  have h1 : (i 1).val < 1 := (i 1).isLt
  refine ⟨⟨(i 0).val, (i 0).isLt⟩, ⟨(i 2).val, (i 2).isLt⟩, funext fun a => ?_⟩
  match a with
  | ⟨0, _⟩ => rfl
  | ⟨1, _⟩ => exact Fin.ext (by show (i 1).val = 0; omega)
  | ⟨2, _⟩ => rfl

/-- The codes of the new key. -/
theorem result_kq (c : Dev nD) : finalOf m c main_v23 = Cert.ReferenceIdeal.Read.val_main_v13 (F := Ideal) (arg1 m c) := by
  funext i
  obtain ⟨b, n, d, rfl⟩ := idx4_cases i
  refine (W_v23 m c b n d).trans ((pay8_apply _ n d).trans ?_)
  rw [blk2]
  exact (Cert.ReferenceIdeal.Hand.v13_apply (arg1 m c) b n d).symm

/-- The scales of the new key. -/
theorem result_ks (c : Dev nD) : finalOf m c main_v24 = Cert.ReferenceIdeal.Read.val_main_v6 (F := Ideal) (arg1 m c) := by
  funext i
  obtain ⟨b, n, rfl⟩ := idx3_cases i
  refine (W_v24 m c b n).trans ((pay10_apply _ n).trans ?_)
  rw [blk2]
  exact (Cert.ReferenceIdeal.Hand.v6_apply (arg1 m c) b n).symm

/-- The codes of the new value. -/
theorem result_vq (c : Dev nD) : finalOf m c main_v25 = Cert.ReferenceIdeal.Read.val_main_v27 (F := Ideal) (arg2 m c) := by
  funext i
  obtain ⟨b, n, d, rfl⟩ := idx4_cases i
  refine (W_v25 m c b n d).trans ((pay9_apply _ n d).trans ?_)
  rw [blk3]
  exact (Cert.ReferenceIdeal.Hand.v27_apply (arg2 m c) b n d).symm

/-- The scales of the new value. -/
theorem result_vs (c : Dev nD) : finalOf m c main_v26 = Cert.ReferenceIdeal.Read.val_main_v20 (F := Ideal) (arg2 m c) := by
  funext i
  obtain ⟨b, n, rfl⟩ := idx3_cases i
  refine (W_v26 m c b n).trans ((pay11_apply _ n).trans ?_)
  rw [blk3]
  exact (Cert.ReferenceIdeal.Hand.v20_apply (arg2 m c) b n).symm

end Cert.KernelIdeal.Hand
-- ==== Proof.lean ====
/- The claims of this certificate: the kernel as it is and the kernel over the extended reals run to the end, leave their
   arguments unchanged and every semaphore at zero; so does the reference; and over the extended reals the kernel's five
   results are the reference's. -/
module

public import proofs.«01_k».proof.Defs
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init
public import proofs.«01_k».proof.Proof.Same
public import proofs.«01_k».proof.Proof.Results

@[expose] public section

noncomputable section

namespace Cert.Proof

open Idealize.ShloMosaic Idealize.SL.Sem

/-- The reference runs to the end, leaves its arguments unchanged, and has no semaphore to leave at anything but zero. -/
theorem quiescent_reference : Cert.quiescent_ReferenceIdeal := fun m g _ =>
  (θ_run Cert.ReferenceIdeal.defs _ _).mono
    (fun r h => ⟨fun c => (h c).2.2.2.2.2, sem_eq_zero_of_no_sems rfl r.2⟩)
    (Cert.ReferenceIdeal.Value.run m g)

/-- Over the extended reals the kernel's five results are the reference's. -/
theorem algebraic : Cert.algebraic_KernelIdeal_ReferenceIdeal := by
  intro m g m' g' _ hagree
  refine ⟨fun c => Cert.KernelIdeal.Hand.finalOf m c Cert.KernelIdeal.main_v22,
    fun c => Cert.KernelIdeal.Hand.finalOf m c Cert.KernelIdeal.main_v23,
    fun c => Cert.KernelIdeal.Hand.finalOf m c Cert.KernelIdeal.main_v24,
    fun c => Cert.KernelIdeal.Hand.finalOf m c Cert.KernelIdeal.main_v25,
    fun c => Cert.KernelIdeal.Hand.finalOf m c Cert.KernelIdeal.main_v26, ?_, ?_⟩
  · exact (θ_run Cert.KernelIdeal.defs _ _).mono
      (fun r h c => ⟨(h.1.1 c).2 Cert.KernelIdeal.main_v22 (by decide), (h.1.1 c).2 Cert.KernelIdeal.main_v23 (by decide),
        (h.1.1 c).2 Cert.KernelIdeal.main_v24 (by decide), (h.1.1 c).2 Cert.KernelIdeal.main_v25 (by decide),
        (h.1.1 c).2 Cert.KernelIdeal.main_v26 (by decide), h.2.1 c⟩)
      (θ_run_and (Cert.KernelIdeal.Hand.run_main_quiescent m g) (Cert.KernelIdeal.Hand.frame m g))
  · refine (θ_run Cert.ReferenceIdeal.defs _ _).mono (fun r h c => ?_) (Cert.ReferenceIdeal.Value.run m' g')
    obtain ⟨h0, h1, h2, h3, h4, h5, h6⟩ := hagree c
    obtain ⟨e0, e1, e2, e3, e4, hargs⟩ := h c
    refine ⟨e0.trans ?_, e1.trans ?_, e2.trans ?_, e3.trans ?_, e4.trans ?_, hargs⟩
    · rw [Cert.ReferenceIdeal.Read.val_main_v76_eq, h0, h1, h2, h3, h4, h5, h6]
      exact (Cert.KernelIdeal.Hand.result_y m c).symm
    · rw [Cert.ReferenceIdeal.Read.val_main_v13_eq, h1]
      exact (Cert.KernelIdeal.Hand.result_kq m c).symm
    · rw [Cert.ReferenceIdeal.Read.val_main_v6_eq, h1]
      exact (Cert.KernelIdeal.Hand.result_ks m c).symm
    · rw [Cert.ReferenceIdeal.Read.val_main_v27_eq, h2]
      exact (Cert.KernelIdeal.Hand.result_vq m c).symm
    · rw [Cert.ReferenceIdeal.Read.val_main_v20_eq, h2]
      exact (Cert.KernelIdeal.Hand.result_vs m c).symm

/-- The claims, together. -/
theorem claim : Cert.Claim :=
  ⟨Cert.Kernel.Gen.facts, Cert.KernelIdeal.Gen.facts, Cert.ReferenceIdeal.Gen.facts,
    Cert.Same.frame, fun m g _ => Cert.KernelIdeal.Hand.frame m g, quiescent_reference,
    trivial, algebraic⟩

end Cert.Proof

end
